-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_legal_inputs [hPre_legal_inputs : Cert.Pre_legal_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_legal_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_legal_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_legal_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_legal_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_legal_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_legal_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_legal_inputs [hPre_legal_inputs : Cert.Pre_legal_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_legal_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_legal_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_legal_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_legal_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_legal_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_legal_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_legal_inputs [hKernelIdeal : Cert.KernelIdeal.Facts] [hPre_legal_inputs : Cert.Pre_legal_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_legal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_legal_inputs [hReferenceIdeal : Cert.ReferenceIdeal.Facts] [hPre_legal_inputs : Cert.Pre_legal_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_legal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_legal_inputs [hKernelIdeal : Cert.KernelIdeal.Facts] [hReferenceIdeal : Cert.ReferenceIdeal.Facts] [hPre_legal_inputs : Cert.Pre_legal_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_legal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_legal_inputs : Cert.Pre_legal_inputs.Facts),
    quiescent_Kernel (hKernel := hKernel)
    ∧ quiescent_KernelIdeal (hKernelIdeal := hKernelIdeal)
    ∧ quiescent_KernelIdeal_pre_legal_inputs (hKernelIdeal := hKernelIdeal) (hPre_legal_inputs := hPre_legal_inputs)
    ∧ quiescent_ReferenceIdeal (hReferenceIdeal := hReferenceIdeal)
    ∧ quiescent_ReferenceIdeal_pre_legal_inputs (hReferenceIdeal := hReferenceIdeal) (hPre_legal_inputs := hPre_legal_inputs)
    ∧ preserves_Kernel_KernelIdeal
    ∧ algebraic_KernelIdeal_ReferenceIdeal_pre_legal_inputs (hKernelIdeal := hKernelIdeal) (hReferenceIdeal := hReferenceIdeal) (hPre_legal_inputs := hPre_legal_inputs)
-- ==== Pre_legal_inputs.lean ====
abbrev S100000x2048 : Shape := ⟨2, ![100000, 2048]⟩
abbrev S128x16x2048 : Shape := ⟨3, ![128, 16, 2048]⟩
abbrev S1 : Shape := ⟨1, ![1]⟩
abbrev S128 : Shape := ⟨1, ![128]⟩
abbrev S100000 : Shape := ⟨1, ![100000]⟩
abbrev S_ : Shape := ⟨0, ![]⟩

class Facts : Prop where
  bcast_S_S100000x2048 : S_.BroadcastsInDim S100000x2048 (![] : Fin 0 → Fin S100000x2048.rank)
  bcast_S_S128x16x2048 : S_.BroadcastsInDim S128x16x2048 (![] : Fin 0 → Fin S128x16x2048.rank)
  bcast_S_S100000 : S_.BroadcastsInDim S100000 (![] : Fin 0 → Fin S100000.rank)
  bcast_S_S1 : S_.BroadcastsInDim S1 (![] : Fin 0 → Fin S1.rank)
  bcast_S_S128 : S_.BroadcastsInDim S128 (![] : Fin 0 → Fin S128.rank)

variable [Facts]

def fn_part1 {F : FTy → Type} [FloatOps F] (main_arg3 : FVec F S128 .f32) (main_arg4 : FVec F S128 .f32) (main_v2 : IVec S100000x2048 1) (main_v5 : IVec S128x16x2048 1) (main_v8 : IVec S100000 1) (main_v13 : IVec S1 1) (main_v15 : IVec S128 1) (main_v16 : FVec F S128 .f32) : IVec S100000x2048 1 × IVec S128x16x2048 1 × IVec S100000 1 × IVec S1 1 × IVec S128 1 × IVec S128 1 :=
  let main_v17 : IVec S128 1 := cmpf .olt main_arg3 main_v16
  let main_v18 : IVec S128 1 := andi main_v15 main_v17
  let main_cst_5 : FVec F S_ .f32 := constant S_ .f32 0x00000000#32
  let main_v19 : FVec F S128 .f32 := broadcastInDim S128 ![] bcast_S_S128 main_cst_5
  let main_v20 : IVec S128 1 := cmpf .oge main_arg4 main_v19
  (main_v2, main_v5, main_v8, main_v13, main_v18, main_v20)

def fn {F : FTy → Type} [FloatOps F] (main_arg0 : FVec F S100000x2048 .f32) (main_arg1 : FVec F S128x16x2048 .f32) (main_arg2 : IVec S1 32) (main_arg3 : FVec F S128 .f32) (main_arg4 : FVec F S128 .f32) (main_arg5 : IVec S128 32) (main_arg6 : FVec F S100000 .f32) : IVec S100000x2048 1 × IVec S128x16x2048 1 × IVec S100000 1 × IVec S1 1 × IVec S128 1 × IVec S128 1 :=
  let main_v0 : FVec F S100000x2048 .f32 := Host.absf main_arg0
  let main_cst : FVec F S_ .f32 := constant S_ .f32 0x7F800000#32
  let main_v1 : FVec F S100000x2048 .f32 := broadcastInDim S100000x2048 ![] bcast_S_S100000x2048 main_cst
  let main_v2 : IVec S100000x2048 1 := cmpf .olt main_v0 main_v1
  let main_v3 : FVec F S128x16x2048 .f32 := Host.absf main_arg1
  let main_cst_0 : FVec F S_ .f32 := constant S_ .f32 0x7F800000#32
  let main_v4 : FVec F S128x16x2048 .f32 := broadcastInDim S128x16x2048 ![] bcast_S_S128x16x2048 main_cst_0
  let main_v5 : IVec S128x16x2048 1 := cmpf .olt main_v3 main_v4
  let main_v6 : FVec F S100000 .f32 := Host.absf main_arg6
  let main_cst_1 : FVec F S_ .f32 := constant S_ .f32 0x7F800000#32
  let main_v7 : FVec F S100000 .f32 := broadcastInDim S100000 ![] bcast_S_S100000 main_cst_1
  let main_v8 : IVec S100000 1 := cmpf .olt main_v6 main_v7
  let main_c : IVec S_ 32 := constantI S_ 32 4294967280#32
  let main_v9 : IVec S1 32 := broadcastInDim S1 ![] bcast_S_S1 main_c
  let main_v10 : IVec S1 1 := cmpi .sge main_arg2 main_v9
  let main_c_2 : IVec S_ 32 := constantI S_ 32 16#32
  let main_v11 : IVec S1 32 := broadcastInDim S1 ![] bcast_S_S1 main_c_2
  let main_v12 : IVec S1 1 := cmpi .slt main_arg2 main_v11
  let main_v13 : IVec S1 1 := andi main_v10 main_v12
  let main_cst_3 : FVec F S_ .f32 := constant S_ .f32 0x00000000#32
  let main_v14 : FVec F S128 .f32 := broadcastInDim S128 ![] bcast_S_S128 main_cst_3
  let main_v15 : IVec S128 1 := cmpf .ogt main_arg3 main_v14
  let main_cst_4 : FVec F S_ .f32 := constant S_ .f32 0x7F800000#32
  let main_v16 : FVec F S128 .f32 := broadcastInDim S128 ![] bcast_S_S128 main_cst_4
  fn_part1 (F := F) main_arg3 main_arg4 main_v2 main_v5 main_v8 main_v13 main_v15 main_v16
-- ==== Kernel.lean ====
abbrev S100000x2048 : Shape := ⟨2, ![100000, 2048]⟩
abbrev S128x16x2048 : Shape := ⟨3, ![128, 16, 2048]⟩
abbrev S1 : Shape := ⟨1, ![1]⟩
abbrev S128 : Shape := ⟨1, ![128]⟩
abbrev S100000 : Shape := ⟨1, ![100000]⟩
abbrev S_ : Shape := ⟨0, ![]⟩
abbrev S128x1x2048 : Shape := ⟨3, ![128, 1, 2048]⟩
abbrev S128x2048 : Shape := ⟨2, ![128, 2048]⟩
abbrev S100x1x1000 : Shape := ⟨3, ![100, 1, 1000]⟩
abbrev S1000x2048 : Shape := ⟨2, ![1000, 2048]⟩
abbrev S1x1x1000 : Shape := ⟨3, ![1, 1, 1000]⟩
abbrev S128x1000 : Shape := ⟨2, ![128, 1000]⟩
abbrev S1000 : Shape := ⟨1, ![1000]⟩
abbrev S1x1000 : Shape := ⟨2, ![1, 1000]⟩
abbrev S128x1 : Shape := ⟨2, ![128, 1]⟩

abbrev nBuf : Space → Nat
  | .hbm => 19
  | .vmem => 12
  | .smem => 0
  | _ => 0

abbrev bufTy : (tb : Table) → Fin (tcTables nBuf tb) → BufTy
  | .hbm, ⟨0, _⟩ => ⟨S100000x2048, .f32⟩
  | .hbm, ⟨1, _⟩ => ⟨S128x16x2048, .f32⟩
  | .hbm, ⟨2, _⟩ => ⟨S1, .i32⟩
  | .hbm, ⟨3, _⟩ => ⟨S128, .f32⟩
  | .hbm, ⟨4, _⟩ => ⟨S128, .f32⟩
  | .hbm, ⟨5, _⟩ => ⟨S128, .i32⟩
  | .hbm, ⟨6, _⟩ => ⟨S100000, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S128x1x2048, .f32⟩
  | .hbm, ⟨16, _⟩ => ⟨S128x2048, .f32⟩
  | .hbm, ⟨17, _⟩ => ⟨S100x1x1000, .f32⟩
  | .hbm, ⟨18, _⟩ => ⟨S128, .i32⟩
  | .local _ .vmem, ⟨0, _⟩ => ⟨S128x2048, .f32⟩
  | .local _ .vmem, ⟨1, _⟩ => ⟨S1000x2048, .f32⟩
  | .local _ .vmem, ⟨2, _⟩ => ⟨S1000x2048, .f32⟩
  | .local _ .vmem, ⟨3, _⟩ => ⟨S1000x2048, .f32⟩
  | .local _ .vmem, ⟨4, _⟩ => ⟨S1000x2048, .f32⟩
  | .local _ .vmem, ⟨5, _⟩ => ⟨S1x1x1000, .f32⟩
  | .local _ .vmem, ⟨6, _⟩ => ⟨S1x1x1000, .f32⟩
  | .local _ .vmem, ⟨7, _⟩ => ⟨S1x1x1000, .f32⟩
  | .local _ .vmem, ⟨8, _⟩ => ⟨S1x1x1000, .f32⟩
  | .local _ .vmem, ⟨9, _⟩ => ⟨S128, .i32⟩
  | .local _ .vmem, ⟨10, _⟩ => ⟨S128, .f32⟩
  | .local _ .vmem, ⟨11, _⟩ => ⟨S128, .i32⟩
  | _, _ => ⟨S100000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_c_1 : Ref sig .tc := ⟨.hbm, 13, rfl⟩
abbrev main_call0_c_2 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_v0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![50], ![false]⟩

def k0_cond3 (i : grid0.Coords) : BitVec 1 :=
  let arg0 : BitVec 32 := BitVec.ofNat 32 (i 0).val
  let c49_i32 : BitVec 32 := 49#32
  let v50 : BitVec 1 := Scalar.cmpi .eq arg0 c49_i32
  let v51 : BitVec 32 := Scalar.extui v50
  let c0_i32_24 : BitVec 32 := 0#32
  let v52 : BitVec 1 := Scalar.cmpi .ne v51 c0_i32_24
  v52

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x2048 : Shape := ⟨2, ![100000, 2048]⟩
abbrev S128x16x2048 : Shape := ⟨3, ![128, 16, 2048]⟩
abbrev S1 : Shape := ⟨1, ![1]⟩
abbrev S128 : Shape := ⟨1, ![128]⟩
abbrev S100000 : Shape := ⟨1, ![100000]⟩
abbrev S_ : Shape := ⟨0, ![]⟩
abbrev S1x1 : Shape := ⟨2, ![1, 1]⟩
abbrev S128x1x2048 : Shape := ⟨3, ![128, 1, 2048]⟩
abbrev S128x2048 : Shape := ⟨2, ![128, 2048]⟩
abbrev S2048x100000 : Shape := ⟨2, ![2048, 100000]⟩
abbrev S128x100000 : Shape := ⟨2, ![128, 100000]⟩
abbrev S1x100000 : Shape := ⟨2, ![1, 100000]⟩
abbrev S128x1 : Shape := ⟨2, ![128, 1]⟩
abbrev S128x100000x1 : Shape := ⟨3, ![128, 100000, 1]⟩
abbrev S1x1x1 : Shape := ⟨3, ![1, 1, 1]⟩
abbrev S2 : Shape := ⟨1, ![2]⟩

abbrev nBuf : Space → Nat
  | .hbm => 419
  | .vmem => 0
  | .smem => 0
  | _ => 0

abbrev hbmTy0_0 (i : Nat) : BufTy := match i % 128 with
  | 0 => ⟨S100000x2048, .f32⟩
  | 1 => ⟨S128x16x2048, .f32⟩
  | 2 => ⟨S1, .i32⟩
  | 3 => ⟨S128, .f32⟩
  | 4 => ⟨S128, .f32⟩
  | 5 => ⟨S128, .i32⟩
  | 6 => ⟨S100000, .f32⟩
  | 7 => ⟨S_, .i32⟩
  | 8 => ⟨S1, .i32⟩
  | 9 => ⟨S1, .i1⟩
  | 10 => ⟨S_, .i32⟩
  | 11 => ⟨S1, .i32⟩
  | 12 => ⟨S1, .i32⟩
  | 13 => ⟨S1, .i32⟩
  | 14 => ⟨S1x1, .i32⟩
  | 15 => ⟨S1, .i32⟩
  | 16 => ⟨S_, .i32⟩
  | 17 => ⟨S1x1, .i32⟩
  | 18 => ⟨S1x1, .i1⟩
  | 19 => ⟨S1x1, .i32⟩
  | 20 => ⟨S1x1, .i1⟩
  | 21 => ⟨S1x1, .i1⟩
  | 22 => ⟨S_, .i1⟩
  | 23 => ⟨S1, .i1⟩
  | 24 => ⟨S128x1x2048, .f32⟩
  | 25 => ⟨S128x1x2048, .i1⟩
  | 26 => ⟨S_, .f32⟩
  | 27 => ⟨S128x1x2048, .f32⟩
  | 28 => ⟨S128x1x2048, .f32⟩
  | 29 => ⟨S128x2048, .f32⟩
  | 30 => ⟨S2048x100000, .f32⟩
  | 31 => ⟨S128x100000, .f32⟩
  | 32 => ⟨S1x100000, .f32⟩
  | 33 => ⟨S128x100000, .f32⟩
  | 34 => ⟨S128x100000, .f32⟩
  | 35 => ⟨S128x1, .f32⟩
  | 36 => ⟨S128x100000, .f32⟩
  | 37 => ⟨S128x100000, .f32⟩
  | 38 => ⟨S_, .f32⟩
  | 39 => ⟨S128, .f32⟩
  | 40 => ⟨S_, .f32⟩
  | 41 => ⟨S128, .f32⟩
  | 42 => ⟨S128, .f32⟩
  | 43 => ⟨S128x1, .f32⟩
  | 44 => ⟨S128x100000, .f32⟩
  | 45 => ⟨S128x100000, .f32⟩
  | 46 => ⟨S128x100000, .f32⟩
  | 47 => ⟨S_, .f32⟩
  | 48 => ⟨S128, .f32⟩
  | 49 => ⟨S128x1, .f32⟩
  | 50 => ⟨S128x100000, .f32⟩
  | 51 => ⟨S128x100000, .f32⟩
  | 52 => ⟨S128x100000, .f32⟩
  | 53 => ⟨S128x100000, .i32⟩
  | 54 => ⟨S128x100000, .f32⟩
  | 55 => ⟨S128x100000, .i32⟩
  | 56 => ⟨S_, .i32⟩
  | 57 => ⟨S128x100000, .i32⟩
  | 58 => ⟨S128x100000, .i1⟩
  | 59 => ⟨S_, .i32⟩
  | 60 => ⟨S128x100000, .i32⟩
  | 61 => ⟨S128x100000, .i32⟩
  | 62 => ⟨S128x100000, .i32⟩
  | 63 => ⟨S128x100000x1, .i32⟩
  | 64 => ⟨S1, .i32⟩
  | 65 => ⟨S_, .i32⟩
  | 66 => ⟨S128x100000x1, .i32⟩
  | 67 => ⟨S128x100000x1, .i1⟩
  | 68 => ⟨S1x1x1, .i32⟩
  | 69 => ⟨S128x100000x1, .i32⟩
  | 70 => ⟨S128x100000x1, .i1⟩
  | 71 => ⟨S128x100000x1, .i1⟩
  | 72 => ⟨S_, .i1⟩
  | 73 => ⟨S128x100000, .i1⟩
  | 74 => ⟨S128x100000, .f32⟩
  | 75 => ⟨S_, .f32⟩
  | 76 => ⟨S128x100000, .f32⟩
  | 77 => ⟨S128x100000, .f32⟩
  | 78 => ⟨S_, .f32⟩
  | 79 => ⟨S_, .f32⟩
  | 80 => ⟨S128x100000, .f32⟩
  | 81 => ⟨S128x100000, .f32⟩
  | 82 => ⟨S128x1, .f32⟩
  | 83 => ⟨S128x100000, .f32⟩
  | 84 => ⟨S128x100000, .i1⟩
  | 85 => ⟨S_, .f32⟩
  | 86 => ⟨S_, .f32⟩
  | 87 => ⟨S128x100000, .f32⟩
  | 88 => ⟨S128x100000, .f32⟩
  | 89 => ⟨S100000, .i32⟩
  | 90 => ⟨S128x100000, .i32⟩
  | 91 => ⟨S128x100000, .i32⟩
  | 92 => ⟨S128x1, .i32⟩
  | 93 => ⟨S128x100000, .i32⟩
  | 94 => ⟨S128x100000, .i1⟩
  | 95 => ⟨S_, .i32⟩
  | 96 => ⟨S128x100000, .i32⟩
  | 97 => ⟨S128x100000, .i1⟩
  | 98 => ⟨S_, .f32⟩
  | 99 => ⟨S_, .f32⟩
  | 100 => ⟨S128x100000, .f32⟩
  | 101 => ⟨S128x100000, .f32⟩
  | 102 => ⟨S_, .f32⟩
  | 103 => ⟨S128, .f32⟩
  | 104 => ⟨S128x1, .f32⟩
  | 105 => ⟨S128x100000, .f32⟩
  | 106 => ⟨S128x100000, .f32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i1⟩
  | 113 => ⟨S_, .i32⟩
  | 114 => ⟨S128x100000, .i32⟩
  | 115 => ⟨S128x100000, .i32⟩
  | 116 => ⟨S128x100000, .i32⟩
  | 117 => ⟨S128x100000x1, .i32⟩
  | 118 => ⟨S1, .i32⟩
  | 119 => ⟨S_, .i32⟩
  | 120 => ⟨S128x100000x1, .i32⟩
  | 121 => ⟨S128x100000x1, .i1⟩
  | 122 => ⟨S1x1x1, .i32⟩
  | 123 => ⟨S128x100000x1, .i32⟩
  | 124 => ⟨S128x100000x1, .i1⟩
  | 125 => ⟨S128x100000x1, .i1⟩
  | 126 => ⟨S_, .i1⟩
  | 127 => ⟨S128x100000, .i1⟩
  | _ => ⟨S100000x2048, .f32⟩

abbrev hbmTy0_1 (i : Nat) : BufTy := match i % 128 with
  | 0 => ⟨S128x100000, .f32⟩
  | 1 => ⟨S_, .f32⟩
  | 2 => ⟨S128x100000, .f32⟩
  | 3 => ⟨S128x100000, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S128x100000, .f32⟩
  | 16 => ⟨S128x100000, .f32⟩
  | 17 => ⟨S128x100000, .f32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S128x100000, .i64⟩
  | 28 => ⟨S128x100000, .i64⟩
  | 29 => ⟨S_, .i64⟩
  | 30 => ⟨S128x100000, .i64⟩
  | 31 => ⟨S128x100000, .i64⟩
  | 32 => ⟨S_, .i64⟩
  | 33 => ⟨S128x100000, .i64⟩
  | 34 => ⟨S128x100000, .i64⟩
  | 35 => ⟨S128x100000, .i64⟩
  | 36 => ⟨S_, .i64⟩
  | 37 => ⟨S128x100000, .i64⟩
  | 38 => ⟨S128x100000, .i64⟩
  | 39 => ⟨S128x100000, .i32⟩
  | 40 => ⟨S128x100000, .i32⟩
  | 41 => ⟨S_, .i32⟩
  | 42 => ⟨S_, .i32⟩
  | 43 => ⟨S_, .i32⟩
  | 44 => ⟨S128x100000, .i32⟩
  | 45 => ⟨S128x100000, .i32⟩
  | 46 => ⟨S128x100000, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S128x100000, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S100000x2048, .f32⟩

abbrev hbmTy0_2 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S128x100000, .i32⟩
  | 127 => ⟨S128x100000, .i32⟩
  | _ => ⟨S100000x2048, .f32⟩

abbrev hbmTy0_3 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S128x100000, .f32⟩
  | 15 => ⟨S_, .f32⟩
  | 16 => ⟨S128x100000, .f32⟩
  | 17 => ⟨S128x100000, .f32⟩
  | 18 => ⟨S1x1, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S128x100000, .i32⟩
  | 31 => ⟨S_, .f32⟩
  | 32 => ⟨S_, .i32⟩
  | 33 => ⟨S128, .f32⟩
  | 34 => ⟨S128, .i32⟩
  | _ => ⟨S100000x2048, .f32⟩

abbrev hbmTy (i : Nat) : BufTy := match i / 128 with
  | 0 => hbmTy0_0 i
  | 1 => hbmTy0_1 i
  | 2 => hbmTy0_2 i
  | 3 => hbmTy0_3 i
  | _ => ⟨S100000x2048, .f32⟩

abbrev bufTy : (tb : Table) → Fin (tcTables nBuf tb) → BufTy
  | .hbm, ⟨i, _⟩ => hbmTy i
  | _, _ => ⟨S100000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_call1_v0 : Ref sig .tc := ⟨.hbm, 53, rfl⟩
abbrev main_call1_v1_0 : Ref sig .tc := ⟨.hbm, 54, rfl⟩
abbrev main_v22 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v23 : Ref sig .tc := ⟨.hbm, 77, rfl⟩
abbrev main_call3_call0_cst : Ref sig .tc := ⟨.hbm, 78, rfl⟩
abbrev main_call3_call0_v0 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_2 : Ref sig .tc := ⟨.hbm, 85, rfl⟩
abbrev main_call4_v0 : Ref sig .tc := ⟨.hbm, 86, rfl⟩
abbrev main_call4_v1 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_c : Ref sig .tc := ⟨.hbm, 95, rfl⟩
abbrev main_v36 : Ref sig .tc := ⟨.hbm, 96, rfl⟩
abbrev main_v37 : Ref sig .tc := ⟨.hbm, 97, rfl⟩
abbrev main_cst_3 : Ref sig .tc := ⟨.hbm, 98, rfl⟩
abbrev main_call5_v0 : Ref sig .tc := ⟨.hbm, 99, rfl⟩
abbrev main_call5_v1 : Ref sig .tc := ⟨.hbm, 100, rfl⟩
abbrev main_v38 : Ref sig .tc := ⟨.hbm, 101, rfl⟩
abbrev main_cst_4 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_call6_v0 : Ref sig .tc := ⟨.hbm, 107, rfl⟩
abbrev main_call6_v1_0 : Ref sig .tc := ⟨.hbm, 108, rfl⟩
abbrev main_v43 : Ref sig .tc := ⟨.hbm, 109, rfl⟩
abbrev main_call7_c : Ref sig .tc := ⟨.hbm, 110, rfl⟩
abbrev main_call7_v0 : Ref sig .tc := ⟨.hbm, 111, rfl⟩
abbrev main_call7_v1 : Ref sig .tc := ⟨.hbm, 112, rfl⟩
abbrev main_call7_c_0 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_v5 : Ref sig .tc := ⟨.hbm, 117, rfl⟩
abbrev main_call7_c_1 : Ref sig .tc := ⟨.hbm, 118, rfl⟩
abbrev main_call7_c_2 : Ref sig .tc := ⟨.hbm, 119, rfl⟩
abbrev main_call7_v6 : Ref sig .tc := ⟨.hbm, 120, rfl⟩
abbrev main_call7_v7 : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_c_3 : Ref sig .tc := ⟨.hbm, 126, rfl⟩
abbrev main_call7_v12 : Ref sig .tc := ⟨.hbm, 127, rfl⟩
abbrev main_call7_v13 : Ref sig .tc := ⟨.hbm, 128, rfl⟩
abbrev main_call7_cst : Ref sig .tc := ⟨.hbm, 129, rfl⟩
abbrev main_call7_v14 : Ref sig .tc := ⟨.hbm, 130, rfl⟩
abbrev main_v44 : Ref sig .tc := ⟨.hbm, 131, rfl⟩
abbrev main_c_5 : Ref sig .tc := ⟨.hbm, 132, rfl⟩
abbrev main_c_6 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_c_7 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_cst_8 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_call8_cst : Ref sig .tc := ⟨.hbm, 146, rfl⟩
abbrev main_call8_cst_0 : Ref sig .tc := ⟨.hbm, 147, rfl⟩
abbrev main_call8_call0_v0 : Ref sig .tc := ⟨.hbm, 148, rfl⟩
abbrev main_call8_call0_v1 : Ref sig .tc := ⟨.hbm, 149, rfl⟩
abbrev main_call8_call0_v2 : Ref sig .tc := ⟨.hbm, 150, rfl⟩
abbrev main_call8_call0_v3 : Ref sig .tc := ⟨.hbm, 151, rfl⟩
abbrev main_call8_call0_v4 : Ref sig .tc := ⟨.hbm, 152, rfl⟩
abbrev main_call8_call0_v5 : Ref sig .tc := ⟨.hbm, 153, rfl⟩
abbrev main_call8_call0_v6 : Ref sig .tc := ⟨.hbm, 154, rfl⟩
abbrev main_call8_call0_v7 : Ref sig .tc := ⟨.hbm, 155, rfl⟩
abbrev main_call8_call0_v8 : Ref sig .tc := ⟨.hbm, 156, rfl⟩
abbrev main_call8_call0_c : Ref sig .tc := ⟨.hbm, 157, rfl⟩
abbrev main_call8_call0_v9 : Ref sig .tc := ⟨.hbm, 158, rfl⟩
abbrev main_call8_call0_v10 : Ref sig .tc := ⟨.hbm, 159, rfl⟩
abbrev main_call8_call0_c_0 : Ref sig .tc := ⟨.hbm, 160, rfl⟩
abbrev main_call8_call0_v11 : Ref sig .tc := ⟨.hbm, 161, rfl⟩
abbrev main_call8_call0_v12 : Ref sig .tc := ⟨.hbm, 162, rfl⟩
abbrev main_call8_call0_v13 : Ref sig .tc := ⟨.hbm, 163, rfl⟩
abbrev main_call8_call0_c_1 : Ref sig .tc := ⟨.hbm, 164, rfl⟩
abbrev main_call8_call0_v14 : Ref sig .tc := ⟨.hbm, 165, rfl⟩
abbrev main_call8_call0_v15 : Ref sig .tc := ⟨.hbm, 166, rfl⟩
abbrev main_call8_call0_v16 : Ref sig .tc := ⟨.hbm, 167, rfl⟩
abbrev main_call8_call0_v17 : Ref sig .tc := ⟨.hbm, 168, rfl⟩
abbrev main_call8_call0_call0_v0 : Ref sig .tc := ⟨.hbm, 169, rfl⟩
abbrev main_call8_call0_call0_c : Ref sig .tc := ⟨.hbm, 170, rfl⟩
abbrev main_call8_call0_call0_v1 : Ref sig .tc := ⟨.hbm, 171, rfl⟩
abbrev main_call8_call0_call0_v2 : Ref sig .tc := ⟨.hbm, 172, rfl⟩
abbrev main_call8_call0_call0_v3 : Ref sig .tc := ⟨.hbm, 173, rfl⟩
abbrev main_call8_call0_call0_v4 : Ref sig .tc := ⟨.hbm, 174, rfl⟩
abbrev main_call8_call0_call0_v5 : Ref sig .tc := ⟨.hbm, 175, rfl⟩
abbrev main_call8_call0_call0_v6 : Ref sig .tc := ⟨.hbm, 176, rfl⟩
abbrev main_call8_call0_call0_c_0 : Ref sig .tc := ⟨.hbm, 177, rfl⟩
abbrev main_call8_call0_call0_v7 : Ref sig .tc := ⟨.hbm, 178, rfl⟩
abbrev main_call8_call0_call0_v8 : Ref sig .tc := ⟨.hbm, 179, rfl⟩
abbrev main_call8_call0_call0_c_1 : Ref sig .tc := ⟨.hbm, 180, rfl⟩
abbrev main_call8_call0_call0_v9 : Ref sig .tc := ⟨.hbm, 181, rfl⟩
abbrev main_call8_call0_call0_v10 : Ref sig .tc := ⟨.hbm, 182, rfl⟩
abbrev main_call8_call0_call0_v11 : Ref sig .tc := ⟨.hbm, 183, rfl⟩
abbrev main_call8_call0_call0_v12 : Ref sig .tc := ⟨.hbm, 184, rfl⟩
abbrev main_call8_call0_call0_v13 : Ref sig .tc := ⟨.hbm, 185, rfl⟩
abbrev main_call8_call0_call0_c_2 : Ref sig .tc := ⟨.hbm, 186, rfl⟩
abbrev main_call8_call0_call0_v14 : Ref sig .tc := ⟨.hbm, 187, rfl⟩
abbrev main_call8_call0_call0_v15 : Ref sig .tc := ⟨.hbm, 188, rfl⟩
abbrev main_call8_call0_call0_c_3 : Ref sig .tc := ⟨.hbm, 189, rfl⟩
abbrev main_call8_call0_call0_v16 : Ref sig .tc := ⟨.hbm, 190, rfl⟩
abbrev main_call8_call0_call0_v17 : Ref sig .tc := ⟨.hbm, 191, rfl⟩
abbrev main_call8_call0_call0_v18 : Ref sig .tc := ⟨.hbm, 192, rfl⟩
abbrev main_call8_call0_call0_v19 : Ref sig .tc := ⟨.hbm, 193, rfl⟩
abbrev main_call8_call0_call0_v20 : Ref sig .tc := ⟨.hbm, 194, rfl⟩
abbrev main_call8_call0_call0_c_4 : Ref sig .tc := ⟨.hbm, 195, rfl⟩
abbrev main_call8_call0_call0_v21 : Ref sig .tc := ⟨.hbm, 196, rfl⟩
abbrev main_call8_call0_call0_v22 : Ref sig .tc := ⟨.hbm, 197, rfl⟩
abbrev main_call8_call0_call0_c_5 : Ref sig .tc := ⟨.hbm, 198, rfl⟩
abbrev main_call8_call0_call0_v23 : Ref sig .tc := ⟨.hbm, 199, rfl⟩
abbrev main_call8_call0_call0_v24 : Ref sig .tc := ⟨.hbm, 200, rfl⟩
abbrev main_call8_call0_call0_v25 : Ref sig .tc := ⟨.hbm, 201, rfl⟩
abbrev main_call8_call0_call0_v26 : Ref sig .tc := ⟨.hbm, 202, rfl⟩
abbrev main_call8_call0_call0_v27 : Ref sig .tc := ⟨.hbm, 203, rfl⟩
abbrev main_call8_call0_call0_c_6 : Ref sig .tc := ⟨.hbm, 204, rfl⟩
abbrev main_call8_call0_call0_v28 : Ref sig .tc := ⟨.hbm, 205, rfl⟩
abbrev main_call8_call0_call0_v29 : Ref sig .tc := ⟨.hbm, 206, rfl⟩
abbrev main_call8_call0_call0_c_7 : Ref sig .tc := ⟨.hbm, 207, rfl⟩
abbrev main_call8_call0_call0_v30 : Ref sig .tc := ⟨.hbm, 208, rfl⟩
abbrev main_call8_call0_call0_v31 : Ref sig .tc := ⟨.hbm, 209, rfl⟩
abbrev main_call8_call0_call0_v32 : Ref sig .tc := ⟨.hbm, 210, rfl⟩
abbrev main_call8_call0_call0_v33 : Ref sig .tc := ⟨.hbm, 211, rfl⟩
abbrev main_call8_call0_call0_v34 : Ref sig .tc := ⟨.hbm, 212, rfl⟩
abbrev main_call8_call0_call0_v35 : Ref sig .tc := ⟨.hbm, 213, rfl⟩
abbrev main_call8_call0_call0_v36 : Ref sig .tc := ⟨.hbm, 214, rfl⟩
abbrev main_call8_call0_call0_v37 : Ref sig .tc := ⟨.hbm, 215, rfl⟩
abbrev main_call8_call0_call0_c_8 : Ref sig .tc := ⟨.hbm, 216, rfl⟩
abbrev main_call8_call0_call0_v38 : Ref sig .tc := ⟨.hbm, 217, rfl⟩
abbrev main_call8_call0_call0_v39 : Ref sig .tc := ⟨.hbm, 218, rfl⟩
abbrev main_call8_call0_call0_v40 : Ref sig .tc := ⟨.hbm, 219, rfl⟩
abbrev main_call8_call0_call0_c_9 : Ref sig .tc := ⟨.hbm, 220, rfl⟩
abbrev main_call8_call0_call0_v41 : Ref sig .tc := ⟨.hbm, 221, rfl⟩
abbrev main_call8_call0_call0_v42 : Ref sig .tc := ⟨.hbm, 222, rfl⟩
abbrev main_call8_call0_call0_c_10 : Ref sig .tc := ⟨.hbm, 223, rfl⟩
abbrev main_call8_call0_call0_v43 : Ref sig .tc := ⟨.hbm, 224, rfl⟩
abbrev main_call8_call0_call0_v44 : Ref sig .tc := ⟨.hbm, 225, rfl⟩
abbrev main_call8_call0_call0_v45 : Ref sig .tc := ⟨.hbm, 226, rfl⟩
abbrev main_call8_call0_call0_v46 : Ref sig .tc := ⟨.hbm, 227, rfl⟩
abbrev main_call8_call0_call0_v47 : Ref sig .tc := ⟨.hbm, 228, rfl⟩
abbrev main_call8_call0_call0_c_11 : Ref sig .tc := ⟨.hbm, 229, rfl⟩
abbrev main_call8_call0_call0_v48 : Ref sig .tc := ⟨.hbm, 230, rfl⟩
abbrev main_call8_call0_call0_v49 : Ref sig .tc := ⟨.hbm, 231, rfl⟩
abbrev main_call8_call0_call0_c_12 : Ref sig .tc := ⟨.hbm, 232, rfl⟩
abbrev main_call8_call0_call0_v50 : Ref sig .tc := ⟨.hbm, 233, rfl⟩
abbrev main_call8_call0_call0_v51 : Ref sig .tc := ⟨.hbm, 234, rfl⟩
abbrev main_call8_call0_call0_v52 : Ref sig .tc := ⟨.hbm, 235, rfl⟩
abbrev main_call8_call0_call0_v53 : Ref sig .tc := ⟨.hbm, 236, rfl⟩
abbrev main_call8_call0_call0_v54 : Ref sig .tc := ⟨.hbm, 237, rfl⟩
abbrev main_call8_call0_call0_c_13 : Ref sig .tc := ⟨.hbm, 238, rfl⟩
abbrev main_call8_call0_call0_v55 : Ref sig .tc := ⟨.hbm, 239, rfl⟩
abbrev main_call8_call0_call0_v56 : Ref sig .tc := ⟨.hbm, 240, rfl⟩
abbrev main_call8_call0_call0_c_14 : Ref sig .tc := ⟨.hbm, 241, rfl⟩
abbrev main_call8_call0_call0_v57 : Ref sig .tc := ⟨.hbm, 242, rfl⟩
abbrev main_call8_call0_call0_v58 : Ref sig .tc := ⟨.hbm, 243, rfl⟩
abbrev main_call8_call0_call0_v59 : Ref sig .tc := ⟨.hbm, 244, rfl⟩
abbrev main_call8_call0_call0_v60 : Ref sig .tc := ⟨.hbm, 245, rfl⟩
abbrev main_call8_call0_call0_v61 : Ref sig .tc := ⟨.hbm, 246, rfl⟩
abbrev main_call8_call0_call0_c_15 : Ref sig .tc := ⟨.hbm, 247, rfl⟩
abbrev main_call8_call0_call0_v62 : Ref sig .tc := ⟨.hbm, 248, rfl⟩
abbrev main_call8_call0_call0_v63 : Ref sig .tc := ⟨.hbm, 249, rfl⟩
abbrev main_call8_call0_call0_c_16 : Ref sig .tc := ⟨.hbm, 250, rfl⟩
abbrev main_call8_call0_call0_v64 : Ref sig .tc := ⟨.hbm, 251, rfl⟩
abbrev main_call8_call0_call0_v65 : Ref sig .tc := ⟨.hbm, 252, rfl⟩
abbrev main_call8_call0_call0_v66 : Ref sig .tc := ⟨.hbm, 253, rfl⟩
abbrev main_call8_call0_call0_v67 : Ref sig .tc := ⟨.hbm, 254, rfl⟩
abbrev main_call8_call0_call0_v68 : Ref sig .tc := ⟨.hbm, 255, rfl⟩
abbrev main_call8_call0_call0_v69 : Ref sig .tc := ⟨.hbm, 256, rfl⟩
abbrev main_call8_call0_call0_v70 : Ref sig .tc := ⟨.hbm, 257, rfl⟩
abbrev main_call8_call0_call0_v71 : Ref sig .tc := ⟨.hbm, 258, rfl⟩
abbrev main_call8_call0_call0_c_17 : Ref sig .tc := ⟨.hbm, 259, rfl⟩
abbrev main_call8_call0_call0_v72 : Ref sig .tc := ⟨.hbm, 260, rfl⟩
abbrev main_call8_call0_call0_v73 : Ref sig .tc := ⟨.hbm, 261, rfl⟩
abbrev main_call8_call0_call0_v74 : Ref sig .tc := ⟨.hbm, 262, rfl⟩
abbrev main_call8_call0_call0_c_18 : Ref sig .tc := ⟨.hbm, 263, rfl⟩
abbrev main_call8_call0_call0_v75 : Ref sig .tc := ⟨.hbm, 264, rfl⟩
abbrev main_call8_call0_call0_v76 : Ref sig .tc := ⟨.hbm, 265, rfl⟩
abbrev main_call8_call0_call0_c_19 : Ref sig .tc := ⟨.hbm, 266, rfl⟩
abbrev main_call8_call0_call0_v77 : Ref sig .tc := ⟨.hbm, 267, rfl⟩
abbrev main_call8_call0_call0_v78 : Ref sig .tc := ⟨.hbm, 268, rfl⟩
abbrev main_call8_call0_call0_v79 : Ref sig .tc := ⟨.hbm, 269, rfl⟩
abbrev main_call8_call0_call0_v80 : Ref sig .tc := ⟨.hbm, 270, rfl⟩
abbrev main_call8_call0_call0_v81 : Ref sig .tc := ⟨.hbm, 271, rfl⟩
abbrev main_call8_call0_call0_c_20 : Ref sig .tc := ⟨.hbm, 272, rfl⟩
abbrev main_call8_call0_call0_v82 : Ref sig .tc := ⟨.hbm, 273, rfl⟩
abbrev main_call8_call0_call0_v83 : Ref sig .tc := ⟨.hbm, 274, rfl⟩
abbrev main_call8_call0_call0_c_21 : Ref sig .tc := ⟨.hbm, 275, rfl⟩
abbrev main_call8_call0_call0_v84 : Ref sig .tc := ⟨.hbm, 276, rfl⟩
abbrev main_call8_call0_call0_v85 : Ref sig .tc := ⟨.hbm, 277, rfl⟩
abbrev main_call8_call0_call0_v86 : Ref sig .tc := ⟨.hbm, 278, rfl⟩
abbrev main_call8_call0_call0_v87 : Ref sig .tc := ⟨.hbm, 279, rfl⟩
abbrev main_call8_call0_call0_v88 : Ref sig .tc := ⟨.hbm, 280, rfl⟩
abbrev main_call8_call0_call0_c_22 : Ref sig .tc := ⟨.hbm, 281, rfl⟩
abbrev main_call8_call0_call0_v89 : Ref sig .tc := ⟨.hbm, 282, rfl⟩
abbrev main_call8_call0_call0_v90 : Ref sig .tc := ⟨.hbm, 283, rfl⟩
abbrev main_call8_call0_call0_c_23 : Ref sig .tc := ⟨.hbm, 284, rfl⟩
abbrev main_call8_call0_call0_v91 : Ref sig .tc := ⟨.hbm, 285, rfl⟩
abbrev main_call8_call0_call0_v92 : Ref sig .tc := ⟨.hbm, 286, rfl⟩
abbrev main_call8_call0_call0_v93 : Ref sig .tc := ⟨.hbm, 287, rfl⟩
abbrev main_call8_call0_call0_v94 : Ref sig .tc := ⟨.hbm, 288, rfl⟩
abbrev main_call8_call0_call0_v95 : Ref sig .tc := ⟨.hbm, 289, rfl⟩
abbrev main_call8_call0_call0_c_24 : Ref sig .tc := ⟨.hbm, 290, rfl⟩
abbrev main_call8_call0_call0_v96 : Ref sig .tc := ⟨.hbm, 291, rfl⟩
abbrev main_call8_call0_call0_v97 : Ref sig .tc := ⟨.hbm, 292, rfl⟩
abbrev main_call8_call0_call0_c_25 : Ref sig .tc := ⟨.hbm, 293, rfl⟩
abbrev main_call8_call0_call0_v98 : Ref sig .tc := ⟨.hbm, 294, rfl⟩
abbrev main_call8_call0_call0_v99 : Ref sig .tc := ⟨.hbm, 295, rfl⟩
abbrev main_call8_call0_call0_v100 : Ref sig .tc := ⟨.hbm, 296, rfl⟩
abbrev main_call8_call0_call0_v101 : Ref sig .tc := ⟨.hbm, 297, rfl⟩
abbrev main_call8_call0_call0_v102 : Ref sig .tc := ⟨.hbm, 298, rfl⟩
abbrev main_call8_call0_call0_v103 : Ref sig .tc := ⟨.hbm, 299, rfl⟩
abbrev main_call8_call0_call0_v104 : Ref sig .tc := ⟨.hbm, 300, rfl⟩
abbrev main_call8_call0_call0_v105 : Ref sig .tc := ⟨.hbm, 301, rfl⟩
abbrev main_call8_call0_call0_c_26 : Ref sig .tc := ⟨.hbm, 302, rfl⟩
abbrev main_call8_call0_call0_v106 : Ref sig .tc := ⟨.hbm, 303, rfl⟩
abbrev main_call8_call0_call0_v107 : Ref sig .tc := ⟨.hbm, 304, rfl⟩
abbrev main_call8_call0_call0_v108 : Ref sig .tc := ⟨.hbm, 305, rfl⟩
abbrev main_call8_call0_call0_c_27 : Ref sig .tc := ⟨.hbm, 306, rfl⟩
abbrev main_call8_call0_call0_v109 : Ref sig .tc := ⟨.hbm, 307, rfl⟩
abbrev main_call8_call0_call0_v110 : Ref sig .tc := ⟨.hbm, 308, rfl⟩
abbrev main_call8_call0_call0_c_28 : Ref sig .tc := ⟨.hbm, 309, rfl⟩
abbrev main_call8_call0_call0_v111 : Ref sig .tc := ⟨.hbm, 310, rfl⟩
abbrev main_call8_call0_call0_v112 : Ref sig .tc := ⟨.hbm, 311, rfl⟩
abbrev main_call8_call0_call0_v113 : Ref sig .tc := ⟨.hbm, 312, rfl⟩
abbrev main_call8_call0_call0_v114 : Ref sig .tc := ⟨.hbm, 313, rfl⟩
abbrev main_call8_call0_call0_v115 : Ref sig .tc := ⟨.hbm, 314, rfl⟩
abbrev main_call8_call0_call0_c_29 : Ref sig .tc := ⟨.hbm, 315, rfl⟩
abbrev main_call8_call0_call0_v116 : Ref sig .tc := ⟨.hbm, 316, rfl⟩
abbrev main_call8_call0_call0_v117 : Ref sig .tc := ⟨.hbm, 317, rfl⟩
abbrev main_call8_call0_call0_c_30 : Ref sig .tc := ⟨.hbm, 318, rfl⟩
abbrev main_call8_call0_call0_v118 : Ref sig .tc := ⟨.hbm, 319, rfl⟩
abbrev main_call8_call0_call0_v119 : Ref sig .tc := ⟨.hbm, 320, rfl⟩
abbrev main_call8_call0_call0_v120 : Ref sig .tc := ⟨.hbm, 321, rfl⟩
abbrev main_call8_call0_call0_v121 : Ref sig .tc := ⟨.hbm, 322, rfl⟩
abbrev main_call8_call0_call0_v122 : Ref sig .tc := ⟨.hbm, 323, rfl⟩
abbrev main_call8_call0_call0_c_31 : Ref sig .tc := ⟨.hbm, 324, rfl⟩
abbrev main_call8_call0_call0_v123 : Ref sig .tc := ⟨.hbm, 325, rfl⟩
abbrev main_call8_call0_call0_v124 : Ref sig .tc := ⟨.hbm, 326, rfl⟩
abbrev main_call8_call0_call0_c_32 : Ref sig .tc := ⟨.hbm, 327, rfl⟩
abbrev main_call8_call0_call0_v125 : Ref sig .tc := ⟨.hbm, 328, rfl⟩
abbrev main_call8_call0_call0_v126 : Ref sig .tc := ⟨.hbm, 329, rfl⟩
abbrev main_call8_call0_call0_v127 : Ref sig .tc := ⟨.hbm, 330, rfl⟩
abbrev main_call8_call0_call0_v128 : Ref sig .tc := ⟨.hbm, 331, rfl⟩
abbrev main_call8_call0_call0_v129 : Ref sig .tc := ⟨.hbm, 332, rfl⟩
abbrev main_call8_call0_call0_c_33 : Ref sig .tc := ⟨.hbm, 333, rfl⟩
abbrev main_call8_call0_call0_v130 : Ref sig .tc := ⟨.hbm, 334, rfl⟩
abbrev main_call8_call0_call0_v131 : Ref sig .tc := ⟨.hbm, 335, rfl⟩
abbrev main_call8_call0_call0_c_34 : Ref sig .tc := ⟨.hbm, 336, rfl⟩
abbrev main_call8_call0_call0_v132 : Ref sig .tc := ⟨.hbm, 337, rfl⟩
abbrev main_call8_call0_call0_v133 : Ref sig .tc := ⟨.hbm, 338, rfl⟩
abbrev main_call8_call0_call0_v134 : Ref sig .tc := ⟨.hbm, 339, rfl⟩
abbrev main_call8_call0_call0_v135 : Ref sig .tc := ⟨.hbm, 340, rfl⟩
abbrev main_call8_call0_call0_v136 : Ref sig .tc := ⟨.hbm, 341, rfl⟩
abbrev main_call8_call0_call0_v137 : Ref sig .tc := ⟨.hbm, 342, rfl⟩
abbrev main_call8_call0_call0_v138 : Ref sig .tc := ⟨.hbm, 343, rfl⟩
abbrev main_call8_call0_call0_v139 : Ref sig .tc := ⟨.hbm, 344, rfl⟩
abbrev main_call8_call0_call0_c_35 : Ref sig .tc := ⟨.hbm, 345, rfl⟩
abbrev main_call8_call0_call0_v140 : Ref sig .tc := ⟨.hbm, 346, rfl⟩
abbrev main_call8_call0_call0_v141 : Ref sig .tc := ⟨.hbm, 347, rfl⟩
abbrev main_call8_call0_call0_v142 : Ref sig .tc := ⟨.hbm, 348, rfl⟩
abbrev main_call8_call0_call0_c_36 : Ref sig .tc := ⟨.hbm, 349, rfl⟩
abbrev main_call8_call0_call0_v143 : Ref sig .tc := ⟨.hbm, 350, rfl⟩
abbrev main_call8_call0_call0_v144 : Ref sig .tc := ⟨.hbm, 351, rfl⟩
abbrev main_call8_call0_call0_c_37 : Ref sig .tc := ⟨.hbm, 352, rfl⟩
abbrev main_call8_call0_call0_v145 : Ref sig .tc := ⟨.hbm, 353, rfl⟩
abbrev main_call8_call0_call0_v146 : Ref sig .tc := ⟨.hbm, 354, rfl⟩
abbrev main_call8_call0_call0_v147 : Ref sig .tc := ⟨.hbm, 355, rfl⟩
abbrev main_call8_call0_call0_v148 : Ref sig .tc := ⟨.hbm, 356, rfl⟩
abbrev main_call8_call0_call0_v149 : Ref sig .tc := ⟨.hbm, 357, rfl⟩
abbrev main_call8_call0_call0_c_38 : Ref sig .tc := ⟨.hbm, 358, rfl⟩
abbrev main_call8_call0_call0_v150 : Ref sig .tc := ⟨.hbm, 359, rfl⟩
abbrev main_call8_call0_call0_v151 : Ref sig .tc := ⟨.hbm, 360, rfl⟩
abbrev main_call8_call0_call0_c_39 : Ref sig .tc := ⟨.hbm, 361, rfl⟩
abbrev main_call8_call0_call0_v152 : Ref sig .tc := ⟨.hbm, 362, rfl⟩
abbrev main_call8_call0_call0_v153 : Ref sig .tc := ⟨.hbm, 363, rfl⟩
abbrev main_call8_call0_call0_v154 : Ref sig .tc := ⟨.hbm, 364, rfl⟩
abbrev main_call8_call0_call0_v155 : Ref sig .tc := ⟨.hbm, 365, rfl⟩
abbrev main_call8_call0_call0_v156 : Ref sig .tc := ⟨.hbm, 366, rfl⟩
abbrev main_call8_call0_call0_c_40 : Ref sig .tc := ⟨.hbm, 367, rfl⟩
abbrev main_call8_call0_call0_v157 : Ref sig .tc := ⟨.hbm, 368, rfl⟩
abbrev main_call8_call0_call0_v158 : Ref sig .tc := ⟨.hbm, 369, rfl⟩
abbrev main_call8_call0_call0_c_41 : Ref sig .tc := ⟨.hbm, 370, rfl⟩
abbrev main_call8_call0_call0_v159 : Ref sig .tc := ⟨.hbm, 371, rfl⟩
abbrev main_call8_call0_call0_v160 : Ref sig .tc := ⟨.hbm, 372, rfl⟩
abbrev main_call8_call0_call0_v161 : Ref sig .tc := ⟨.hbm, 373, rfl⟩
abbrev main_call8_call0_call0_v162 : Ref sig .tc := ⟨.hbm, 374, rfl⟩
abbrev main_call8_call0_call0_v163 : Ref sig .tc := ⟨.hbm, 375, rfl⟩
abbrev main_call8_call0_call0_c_42 : Ref sig .tc := ⟨.hbm, 376, rfl⟩
abbrev main_call8_call0_call0_v164 : Ref sig .tc := ⟨.hbm, 377, rfl⟩
abbrev main_call8_call0_call0_v165 : Ref sig .tc := ⟨.hbm, 378, rfl⟩
abbrev main_call8_call0_call0_c_43 : Ref sig .tc := ⟨.hbm, 379, rfl⟩
abbrev main_call8_call0_call0_v166 : Ref sig .tc := ⟨.hbm, 380, rfl⟩
abbrev main_call8_call0_call0_v167 : Ref sig .tc := ⟨.hbm, 381, rfl⟩
abbrev main_call8_call0_call0_v168 : Ref sig .tc := ⟨.hbm, 382, rfl⟩
abbrev main_call8_call0_call0_v169 : Ref sig .tc := ⟨.hbm, 383, rfl⟩
abbrev main_call8_call0_call0_v170 : Ref sig .tc := ⟨.hbm, 384, rfl⟩
abbrev main_call8_call0_v18_0 : Ref sig .tc := ⟨.hbm, 385, rfl⟩
abbrev main_call8_call0_call0_v172 : Ref sig .tc := ⟨.hbm, 386, rfl⟩
abbrev main_call8_call0_call0_v173 : Ref sig .tc := ⟨.hbm, 387, rfl⟩
abbrev main_call8_call0_call0_c_44 : Ref sig .tc := ⟨.hbm, 388, rfl⟩
abbrev main_call8_call0_call0_v174 : Ref sig .tc := ⟨.hbm, 389, rfl⟩
abbrev main_call8_call0_v18_1 : Ref sig .tc := ⟨.hbm, 390, rfl⟩
abbrev main_call8_call0_v19 : Ref sig .tc := ⟨.hbm, 391, rfl⟩
abbrev main_call8_call0_c_2 : Ref sig .tc := ⟨.hbm, 392, rfl⟩
abbrev main_call8_call0_v20 : Ref sig .tc := ⟨.hbm, 393, rfl⟩
abbrev main_call8_call0_v21 : Ref sig .tc := ⟨.hbm, 394, rfl⟩
abbrev main_call8_call0_c_3 : Ref sig .tc := ⟨.hbm, 395, rfl⟩
abbrev main_call8_call0_v22 : Ref sig .tc := ⟨.hbm, 396, rfl⟩
abbrev main_call8_call0_v23 : Ref sig .tc := ⟨.hbm, 397, rfl⟩
abbrev main_call8_call0_v24 : Ref sig .tc := ⟨.hbm, 398, rfl⟩
abbrev main_call8_call0_cst : Ref sig .tc := ⟨.hbm, 399, rfl⟩
abbrev main_call8_call0_v25 : Ref sig .tc := ⟨.hbm, 400, rfl⟩
abbrev main_call8_call0_v26 : Ref sig .tc := ⟨.hbm, 401, rfl⟩
abbrev main_call8_call0_v27 : Ref sig .tc := ⟨.hbm, 402, rfl⟩
abbrev main_call8_call0_v28 : Ref sig .tc := ⟨.hbm, 403, rfl⟩
abbrev main_call8_call0_v29 : Ref sig .tc := ⟨.hbm, 404, rfl⟩
abbrev main_call8_call0_v30 : Ref sig .tc := ⟨.hbm, 405, rfl⟩
abbrev main_call8_call0_v31 : Ref sig .tc := ⟨.hbm, 406, rfl⟩
abbrev main_call8_call0_v32 : Ref sig .tc := ⟨.hbm, 407, rfl⟩
abbrev main_call8_v0 : Ref sig .tc := ⟨.hbm, 408, rfl⟩
abbrev main_call8_v1 : Ref sig .tc := ⟨.hbm, 409, rfl⟩
abbrev main_call8_v2 : Ref sig .tc := ⟨.hbm, 410, rfl⟩
abbrev main_call8_v3 : Ref sig .tc := ⟨.hbm, 411, rfl⟩
abbrev main_v55 : Ref sig .tc := ⟨.hbm, 412, rfl⟩
abbrev main_v56 : Ref sig .tc := ⟨.hbm, 413, rfl⟩
abbrev main_call9_v0 : Ref sig .tc := ⟨.hbm, 414, rfl⟩
abbrev main_call9_cst : Ref sig .tc := ⟨.hbm, 415, rfl⟩
abbrev main_call9_c : Ref sig .tc := ⟨.hbm, 416, rfl⟩
abbrev main_call9_v1_0 : Ref sig .tc := ⟨.hbm, 417, rfl⟩
abbrev main_v57 : Ref sig .tc := ⟨.hbm, 418, rfl⟩

abbrev nD : Nat := 1
abbrev τ : Topo := Topo.v7x

variable {F : FTy → Type} [FloatOps F]
-- ==== Proof.Kernel.Cases.lean ====
/-
  What one grid point of the kernel leaves in its two accumulators and, at the last point, in the output: the generated
  case terms read back as values.
-/
module

public import proofs.«01_k».proof.Proof.Gen.KernelIdeal.Value
public import Idealize.ShloMosaic.Lib.Tactic

@[expose] public section

noncomputable section

namespace Cert.KernelIdeal.Hand

open Idealize.ShloMosaic Idealize.ShloMosaic.TcCoe Idealize.SL.Sem Cert.KernelIdeal Cert.KernelIdeal.Gen

variable {F : FTy → Type} [FloatOps F]

/-- The larger of the two blocks' row maxima. -/
def blockVal (x0 : Vec F S128x2048 .f32) (x1 x2 : Vec F S1000x2048 .f32) (x3 x4 : Vec F S1x1x1000 .f32) : Vec F S128 .f32 :=
  k0_pay2 (k0_pay10 x0 x1 x3) (k0_pay13 x0 x2 x4)

/-- The place in the vocabulary where that maximum is first attained. -/
def blockIdx (i : grid0.Coords) (x0 : Vec F S128x2048 .f32) (x1 x2 : Vec F S1000x2048 .f32) (x3 x4 : Vec F S1x1x1000 .f32) : Vec F S128 .i32 :=
  k0_pay3 (k0_pay10 x0 x1 x3) (k0_pay11 i x0 x1 x3) (Scalar.addi (Scalar.muli (BitVec.ofNat 32 (i 0).val) 2000#32) 1000#32)
    (k0_pay13 x0 x2 x4) (iota .tc S128x1000 32 [1] iota_S128x1000_d1_w32) (k0_pay14 x0 x2 x4)

/-- The value accumulator after a later point. -/
def nextVal (bv acc : Vec F S128 .f32) : Vec F S128 .f32 := select (cmpf .ogt bv acc) bv acc

/-- The place accumulator after a later point. -/
def nextIdx (bv acc : Vec F S128 .f32) (bi acci : Vec F S128 .i32) : Vec F S128 .i32 := select (cmpf .ogt bv acc) bi acci

theorem hz1 : (![0] : Fin 1 → Nat) = fun _ => 0 := funext fun a => by fin_cases a; rfl
theorem hz2 : (![0, 0] : Fin 2 → Nat) = fun _ => 0 := funext fun a => by fin_cases a <;> rfl
theorem hz4 : (![0, 0, 0] : Fin 3 → Nat) = fun _ => 0 := funext fun a => by fin_cases a <;> rfl

variable (c : Dev nD) (i : grid0.Coords) (arg1 : Memref sig .tc .vmem S128x2048 .f32) (harg1 : arg1.IsWhole) (arg2 : Memref sig .tc .vmem S1000x2048 .f32) (harg2 : arg2.IsWhole) (arg3 : Memref sig .tc .vmem S1000x2048 .f32) (harg3 : arg3.IsWhole) (arg4 : Memref sig .tc .vmem S1x1x1000 .f32) (harg4 : arg4.IsWhole) (arg5 : Memref sig .tc .vmem S1x1x1000 .f32) (harg5 : arg5.IsWhole) (arg6 : Memref sig .tc .vmem S128 .i32) (harg6 : arg6.IsWhole) (arg7 : Memref sig .tc .vmem S128 .f32) (harg7 : arg7.IsWhole) (arg8 : Memref sig .tc .vmem S128 .i32) (harg8 : arg8.IsWhole)
  (x0 : Vec F S128x2048 .f32) (x1 : Vec F S1000x2048 .f32) (x2 : Vec F S1000x2048 .f32) (x3 : Vec F S1x1x1000 .f32) (x4 : Vec F S1x1x1000 .f32) (xs0 : Vec F S128 .f32) (xs1 : Vec F S128 .i32)

theorem sout_A0 (hc0 : cond0_0 i) (hc1 : ¬cond0_1 i) (hc2 : ¬cond0_2 i) :
    sout0_A_0 c i arg1 harg1 arg2 harg2 arg3 harg3 arg4 harg4 arg5 harg5 arg6 harg6 arg7 harg7 arg8 harg8 hc0 hc1 hc2 x0 x1 x2 x3 x4 = blockVal x0 x1 x2 x3 x4 := by
  unfold sout0_A_0
  rw [View.read_writes_eq_canon _ _ _ (scover0_A_0 c i arg1 harg1 arg2 harg2 arg3 harg3 arg4 harg4 arg5 harg5 arg6 harg6 arg7 harg7 arg8 harg8 hc0 hc1 hc2 x0 x1 x2 x3 x4)]
  unfold kernelRun0_A
  dsimp only
  sl_unfold_words
  rw [View.canon_unit_zero hz1]
  unfold k0_pay4 blockVal
  simp only [View.readAt_eq_ld, harg1.read_unread, harg2.read_unread, harg3.read_unread, harg4.read_unread, harg5.read_unread,
    View.ld_unit_zero (S := S128x2048) hz2, View.ld_unit_zero (S := S1000x2048) hz2, View.ld_unit_zero (S := S1x1x1000) hz4, shapeCast_self]

theorem sout_A1 (hc0 : cond0_0 i) (hc1 : ¬cond0_1 i) (hc2 : ¬cond0_2 i) :
    sout0_A_1 c i arg1 harg1 arg2 harg2 arg3 harg3 arg4 harg4 arg5 harg5 arg6 harg6 arg7 harg7 arg8 harg8 hc0 hc1 hc2 x0 x1 x2 x3 x4 = blockIdx i x0 x1 x2 x3 x4 := by
  unfold sout0_A_1
  rw [View.read_writes_eq_canon _ _ _ (scover0_A_1 c i arg1 harg1 arg2 harg2 arg3 harg3 arg4 harg4 arg5 harg5 arg6 harg6 arg7 harg7 arg8 harg8 hc0 hc1 hc2 x0 x1 x2 x3 x4)]
  unfold kernelRun0_A
  dsimp only
  sl_unfold_words
  rw [View.canon_unit_zero hz1]
  unfold k0_pay5 blockIdx
  simp only [View.readAt_eq_ld, harg1.read_unread, harg2.read_unread, harg3.read_unread, harg4.read_unread, harg5.read_unread,
    View.ld_unit_zero (S := S128x2048) hz2, View.ld_unit_zero (S := S1000x2048) hz2, View.ld_unit_zero (S := S1x1x1000) hz4, shapeCast_self]

theorem sout_B0 (hc0 : ¬cond0_0 i) (hc1 : cond0_1 i) (hc2 : ¬cond0_2 i) :
    sout0_B_0 c i arg1 harg1 arg2 harg2 arg3 harg3 arg4 harg4 arg5 harg5 arg6 harg6 arg7 harg7 arg8 harg8 hc0 hc1 hc2 x0 x1 x2 x3 x4 xs0 xs1
      = nextVal (blockVal x0 x1 x2 x3 x4) xs0 := by
  unfold sout0_B_0
  rw [View.read_writes_eq_canon _ _ _ (scover0_B_0 c i arg1 harg1 arg2 harg2 arg3 harg3 arg4 harg4 arg5 harg5 arg6 harg6 arg7 harg7 arg8 harg8 hc0 hc1 hc2 x0 x1 x2 x3 x4 xs0 xs1)]
  unfold kernelRun0_B
  dsimp only
  sl_unfold_words
  rw [View.canon_unit_zero hz1]
  unfold k0_pay7 k0_pay6 blockVal nextVal
  simp only [View.readAt_eq_ld, harg1.read_unread, harg2.read_unread, harg3.read_unread, harg4.read_unread, harg5.read_unread, harg7.read_unread,
    View.ld_unit_zero (S := S128x2048) hz2, View.ld_unit_zero (S := S1000x2048) hz2, View.ld_unit_zero (S := S1x1x1000) hz4,
    View.ld_unit_zero (S := S128) hz1, shapeCast_self]

theorem sout_B1 (hc0 : ¬cond0_0 i) (hc1 : cond0_1 i) (hc2 : ¬cond0_2 i) :
    sout0_B_1 c i arg1 harg1 arg2 harg2 arg3 harg3 arg4 harg4 arg5 harg5 arg6 harg6 arg7 harg7 arg8 harg8 hc0 hc1 hc2 x0 x1 x2 x3 x4 xs0 xs1
      = nextIdx (blockVal x0 x1 x2 x3 x4) xs0 (blockIdx i x0 x1 x2 x3 x4) xs1 := by
  unfold sout0_B_1
  rw [View.read_writes_eq_canon _ _ _ (scover0_B_1 c i arg1 harg1 arg2 harg2 arg3 harg3 arg4 harg4 arg5 harg5 arg6 harg6 arg7 harg7 arg8 harg8 hc0 hc1 hc2 x0 x1 x2 x3 x4 xs0 xs1)]
  unfold kernelRun0_B
  dsimp only
  sl_unfold_words
  rw [View.canon_unit_zero hz1]
  unfold k0_pay8 k0_pay6 blockVal blockIdx nextIdx
  simp only [View.readAt_eq_ld, harg1.read_unread, harg2.read_unread, harg3.read_unread, harg4.read_unread, harg5.read_unread, harg7.read_unread, harg8.read_unread,
    View.ld_unit_zero (S := S128x2048) hz2, View.ld_unit_zero (S := S1000x2048) hz2, View.ld_unit_zero (S := S1x1x1000) hz4,
    View.ld_unit_zero (S := S128) hz1, shapeCast_self]

theorem out_C5 (hc0 : ¬cond0_0 i) (hc1 : cond0_1 i) (hc2 : cond0_2 i) :
    out0_C_5 c i arg1 harg1 arg2 harg2 arg3 harg3 arg4 harg4 arg5 harg5 arg6 harg6 arg7 harg7 arg8 harg8 hc0 hc1 hc2 x0 x1 x2 x3 x4 xs0 xs1
      = nextIdx (blockVal x0 x1 x2 x3 x4) xs0 (blockIdx i x0 x1 x2 x3 x4) xs1 := by
  unfold out0_C_5
  rw [View.read_writes_eq_canon _ _ _ (cover0_C_5 c i arg1 harg1 arg2 harg2 arg3 harg3 arg4 harg4 arg5 harg5 arg6 harg6 arg7 harg7 arg8 harg8 hc0 hc1 hc2 x0 x1 x2 x3 x4 xs0 xs1)]
  unfold kernelRun0_C
  dsimp only
  sl_unfold_words
  rw [View.canon_unit_zero hz1, View.readCov_unit_zero (S := S128) _ hz1]
  unfold k0_pay8 k0_pay6 blockVal blockIdx nextIdx
  simp only [View.readAt_eq_ld, harg1.read_unread, harg2.read_unread, harg3.read_unread, harg4.read_unread, harg5.read_unread, harg7.read_unread, harg8.read_unread,
    View.ld_unit_zero (S := S128x2048) hz2, View.ld_unit_zero (S := S1000x2048) hz2, View.ld_unit_zero (S := S1x1x1000) hz4,
    View.ld_unit_zero (S := S128) hz1, shapeCast_self]

variable (m : (ℓ : Loc nD τ sig) → Buf (Elt F) ℓ)

/-- The larger of the two blocks' maxima at point `t`. -/
def pointVal (c : Dev nD) (t : Fin cfg0.N) : Vec F S128 .f32 :=
  blockVal (iblk m c 0 t) (iblk m c 1 t) (iblk m c 2 t) (iblk m c 3 t) (iblk m c 4 t)

/-- The place where it is first attained. -/
def pointIdx (c : Dev nD) (t : Fin cfg0.N) : Vec F S128 .i32 :=
  blockIdx (grid0.coords t) (iblk m c 0 t) (iblk m c 1 t) (iblk m c 2 t) (iblk m c 3 t) (iblk m c 4 t)

/-- The accumulators after point `n`: value and place. -/
def accs (c : Dev nD) : (n : ℕ) → n < cfg0.N → Vec F S128 .f32 × Vec F S128 .i32
  | 0, h => (pointVal m c ⟨0, h⟩, pointIdx m c ⟨0, h⟩)
  | n + 1, h =>
    (nextVal (pointVal m c ⟨n + 1, h⟩) (accs c n (Nat.lt_of_succ_lt h)).1,
      nextIdx (pointVal m c ⟨n + 1, h⟩) (accs c n (Nat.lt_of_succ_lt h)).1 (pointIdx m c ⟨n + 1, h⟩) (accs c n (Nat.lt_of_succ_lt h)).2)

/-- Before the last point the carried accumulators are `accs`. -/
theorem outs_eq (c : Dev nD) : ∀ (n : ℕ) (h : n < cfg0.N), n < 49 → (outsAt0 m c n h).2 = accs m c n h
  | 0, h, _ => by
    rw [outsAt0_A m c ⟨0, h⟩ rfl (by simp) (by simp)]
    simp only [sout_A0, sout_A1, accs, pointVal, pointIdx]
  | n + 1, h, h49 => by
    rw [outsAt0_B m c ⟨n + 1, h⟩ (by simp only; omega) (by simp only; omega) (by simp only; omega)]
    simp only [sout_B0, sout_B1, accs, pointVal, pointIdx, Nat.add_sub_cancel, outs_eq c n (Nat.lt_of_succ_lt h) (by omega)]

/-- The kernel's result is the place accumulator after all fifty points. -/
theorem result_eq (c : Dev nD) : Value.G5 m c = (accs m c 49 (lt_of_lt_of_eq (by decide) N_0.symm)).2 := by
  have h : 49 < cfg0.N := lt_of_lt_of_eq (by decide) N_0.symm
  rw [Value.G5_last, ← Value.outsAt0_sweep m c 49 h, outsAt0_C m c ⟨49, h⟩ (by simp) (by simp) (by simp)]
  simp only [out_C5, accs, pointVal, pointIdx, Nat.add_sub_cancel, outs_eq m c 48 _ (by omega)]

end Cert.KernelIdeal.Hand

end
-- ==== Proof.FirstMax.lean ====
/-
  First places of a maximum, over the extended reals: how the first place of a stretch joins with the first place of the
  stretch after it, and how a maximum and a least index over one block give the block's first place.
-/
module

public import Idealize.ShloMosaic.PureOps.Ideal
public import Idealize.ShloMosaic.PureOps.Ideal.Laws
public import Idealize.ShloMosaic.Lib.Pointwise

@[expose] public section

noncomputable section

namespace Cert.FirstMax

open Idealize.ShloMosaic

/-- `k` is the first place in `[a, b)` where `L` attains its maximum there, and the maximum is `v`. -/
structure FirstOn (L : ℕ → EReal) (a b k : ℕ) (v : EReal) : Prop where
  lo : a ≤ k
  hi : k < b
  val : L k = v
  le : ∀ j, a ≤ j → j < b → L j ≤ v
  lt : ∀ j, a ≤ j → j < k → L j < v

/-- Two neighbouring stretches: the second one's place is taken exactly when its maximum is strictly larger. -/
theorem FirstOn.join {L : ℕ → EReal} {a b c k k' : ℕ} {v v' : EReal} (h : FirstOn L a b k v) (h' : FirstOn L b c k' v') :
    FirstOn L a c (if v < v' then k' else k) (if v < v' then v' else v) := by
  have := h.lo; have := h.hi; have := h'.lo; have := h'.hi
  split
  next hv =>
    exact ⟨by omega, by omega, h'.val,
      fun j h1 h2 => if hj : j < b then (h.le j h1 hj).trans hv.le else h'.le j (by omega) h2,
      fun j h1 h2 => if hj : j < b then (h.le j h1 hj).trans_lt hv else h'.lt j (by omega) h2⟩
  next hv =>
    exact ⟨by omega, by omega, h.val,
      fun j h1 h2 => if hj : j < b then h.le j h1 hj else (h'.le j (by omega) h2).trans (not_lt.mp hv),
      fun j h1 h2 => h.lt j h1 h2⟩

/-- The first place is unique. -/
theorem FirstOn.unique {L : ℕ → EReal} {a b k k' : ℕ} {v v' : EReal} (h : FirstOn L a b k v) (h' : FirstOn L a b k' v') : k = k' := by
  have e : v = v' := le_antisymm (h.val ▸ h'.le k h.lo h.hi) (h'.val ▸ h.le k' h'.lo h'.hi)
  subst e
  rcases lt_trichotomy k k' with hk | hk | hk
  · exact absurd (h'.lt k h.lo hk) (by rw [h.val]; exact lt_irrefl _)
  · exact hk
  · exact absurd (h.lt k' h'.lo hk) (by rw [h'.val]; exact lt_irrefl _)

/-- The fold of the signed minimum is the smallest of its words. -/
theorem fold_minsi {n w : ℕ} (init : BitVec w) (f : Fin n → BitVec w) (k : Fin n) (hi : (f k).toInt ≤ init.toInt)
    (hk : ∀ j, (f k).toInt ≤ (f j).toInt) : Finset.fold IntOp.minsi init f Finset.univ = f k := by
  have key : ∀ S : Finset (Fin n), (Finset.fold IntOp.minsi init f S = init ∨ ∃ j, Finset.fold IntOp.minsi init f S = f j) ∧
      ∀ j ∈ S, (Finset.fold IntOp.minsi init f S).toInt ≤ (f j).toInt := by
    intro S
    induction S using Finset.induction_on with
    | empty => exact ⟨Or.inl rfl, fun j hj => absurd hj (Finset.notMem_empty j)⟩
    | insert a S ha ih =>
      rw [Finset.fold_insert ha]
      obtain ⟨h1, h2⟩ := ih
      simp only [IntOp.minsi, BitVec.slt_iff_toInt_lt]
      split
      next hlt =>
        refine ⟨Or.inr ⟨a, rfl⟩, fun j hj => ?_⟩
        rcases Finset.mem_insert.mp hj with rfl | hj
        · exact le_refl _
        · exact hlt.le.trans (h2 j hj)
      next hlt =>
        refine ⟨h1, fun j hj => ?_⟩
        rcases Finset.mem_insert.mp hj with rfl | hj
        · exact not_lt.mp hlt
        · exact h2 j hj
  obtain ⟨h1, h2⟩ := key Finset.univ
  apply BitVec.eq_of_toInt_eq
  refine le_antisymm (h2 k (Finset.mem_univ k)) ?_
  rcases h1 with h1 | ⟨j, h1⟩
  · rw [h1]; exact hi
  · rw [h1]; exact hk j

theorem negInf : Ideal.ofBits FTy.f32 0xFF800000#32 = ⊥ := by simp [Ideal.ofBits, Ideal.ieee]

theorem toInt_small {k : ℕ} (h : k < 2 ^ 31) : (BitVec.ofNat 32 k).toInt = k := by
  rw [BitVec.toInt_eq_toNat_of_lt] <;> simp only [BitVec.toNat_ofNat] <;> omega

/-- A block's maximum and the least column attaining it: the block's first place. -/
theorem block_first (L : ℕ → EReal) (a : ℕ) (g : Fin 1000 → EReal) (hg : ∀ j : Fin 1000, g j = L (a + j)) :
    ∃ k : ℕ, k < 1000 ∧ FirstOn L a (a + 1000) (a + k) (Finset.fold max (Ideal.ofBits FTy.f32 0xFF800000#32) g Finset.univ) ∧
      Finset.fold IntOp.minsi (2147483647#32)
        (fun x : Fin 1000 => if g x = Finset.fold max (Ideal.ofBits FTy.f32 0xFF800000#32) g Finset.univ then BitVec.ofNat 32 ↑x else 1000#32)
        Finset.univ = BitVec.ofNat 32 k := by
  rw [negInf]
  generalize hv : Finset.fold max ⊥ g Finset.univ = v
  have hle : ∀ j, g j ≤ v := fun j => hv ▸ (Finset.le_fold_max _).mpr (Or.inr ⟨j, Finset.mem_univ j, le_refl _⟩)
  have hex : ∃ j : ℕ, ∃ h : j < 1000, g ⟨j, h⟩ = v := by
    by_contra hne
    have hlt : ∀ j, g j < v := fun j => lt_of_le_of_ne (hle j) fun e => hne ⟨j.val, j.isLt, e⟩
    have : Finset.fold max ⊥ g Finset.univ < v :=
      (Finset.fold_max_lt _).mpr ⟨bot_le.trans_lt (hlt ⟨0, by omega⟩), fun j _ => hlt j⟩
    exact absurd this (by rw [hv]; exact lt_irrefl _)
  classical
  obtain ⟨h1000, hval⟩ := Nat.find_spec hex
  have hmin : ∀ j : Fin 1000, j.val < Nat.find hex → g j ≠ v := fun j hj e => Nat.find_min hex hj ⟨j.isLt, e⟩
  refine ⟨Nat.find hex, h1000, ⟨by omega, by omega, (hg ⟨Nat.find hex, h1000⟩).symm.trans hval, ?_, ?_⟩, ?_⟩
  · intro j h1 h2
    have := hle ⟨j - a, by omega⟩
    rwa [hg, show a + (j - a) = j by omega] at this
  · intro j h1 h2
    have := lt_of_le_of_ne (hle ⟨j - a, by omega⟩) (hmin ⟨j - a, by omega⟩ (by simp only; omega))
    rwa [hg, show a + (j - a) = j by omega] at this
  · have hat : (fun x : Fin 1000 => if g x = v then BitVec.ofNat 32 ↑x else 1000#32) ⟨Nat.find hex, h1000⟩ = BitVec.ofNat 32 (Nat.find hex) := by
      simp only [hval, if_true]
    refine (fold_minsi _ _ ⟨Nat.find hex, h1000⟩ ?_ ?_).trans hat
    · simp only [hval, if_true]
      rw [toInt_small (by omega)]
      have : (2147483647#32).toInt = 2147483647 := by decide
      omega
    · intro j
      simp only [hval, if_true]
      rw [toInt_small (by omega)]
      split
      next e =>
        rw [toInt_small (by omega)]
        have : ¬ j.val < Nat.find hex := fun h => hmin j h e
        omega
      next =>
        have : (1000#32).toInt = 1000 := by decide
        omega

end Cert.FirstMax

end
-- ==== Proof.Spec.lean ====
/-
  The function both programs compute: for each row the first place of the largest score, a score being the product of
  the row's hidden state with a word's embedding, plus the word's bias.
-/
module

public import proofs.«01_k».proof.Proof.FirstMax
public import Idealize.ShloMosaic.Lib.WordCmp

@[expose] public section

noncomputable section

namespace Cert.Spec

open Idealize.ShloMosaic Cert.FirstMax

/-- A position in `[-16, 16)`, counted from the end when negative. -/
def posIx (p : BitVec 32) : Fin 16 := ⟨(p.toInt % 16).toNat, by omega⟩

theorem posIx_wrap {p : BitVec 32} (h1 : -16 ≤ p.toInt) (h2 : p.toInt < 16) :
    (Scalar.select (IntOp.cmpi CmpIPredicate.slt p 0#32) (IntOp.addi p 16#32) p).toInt = ((posIx p).val : ℤ) := by
  have h0 : (0#32).toInt = 0 := by decide
  have h16 : (16#32).toInt = 16 := by decide
  have ha : 0 ≤ p.toInt % 16 := by omega
  show _ = (((p.toInt % 16).toNat : ℕ) : ℤ)
  rw [Int.toNat_of_nonneg ha]
  by_cases hn : p.toInt < 0
  · have : IntOp.cmpi CmpIPredicate.slt p 0#32 = 1#1 := by
      simp only [IntOp.cmpi, BitVec.slt_iff_toInt_lt, h0, hn, if_true]
      first | rfl | simp [BitVec.slt, h0, hn]
    rw [this]
    show (p + 16#32).toInt = _
    rw [BitVec.toInt_add, h16, Int.bmod_eq_of_le] <;> omega
  · have : IntOp.cmpi CmpIPredicate.slt p 0#32 ≠ 1#1 := by
      simp [IntOp.cmpi, BitVec.slt, h0, hn]
    rw [show Scalar.select (IntOp.cmpi CmpIPredicate.slt p 0#32) (IntOp.addi p 16#32) p = p from if_neg this]
    omega

/-- The score of word `v` (below 100000) for one hidden state. -/
def score (h : Fin 2048 → EReal) (E : Fin 100000 → Fin 2048 → EReal) (b : Fin 100000 → EReal) (v : ℕ) : EReal :=
  if hv : v < 100000 then ∑ k, h k * E ⟨v, hv⟩ k + b ⟨v, hv⟩ else ⊥

theorem score_of (h : Fin 2048 → EReal) (E : Fin 100000 → Fin 2048 → EReal) (b : Fin 100000 → EReal) (v : ℕ) (hv : v < 100000) :
    score h E b v = ∑ k, h k * E ⟨v, hv⟩ k + b ⟨v, hv⟩ := dif_pos hv

end Cert.Spec

end
-- ==== Proof.Kernel.Rows.lean ====
/-
  What the kernel's region reads: its blocks of the embedding, of the bias and of the hidden states at the chosen
  position, in terms of the arguments.
-/
module

public import proofs.«01_k».proof.Proof.Kernel.Cases
public import proofs.«01_k».proof.Proof.Spec
public import Idealize.ShloMosaic.Lib.Pointwise
public import Idealize.ShloMosaic.Lib.Pipeline.ValueKit
public import Idealize.ShloMosaic.Lib.Claim
public import Idealize.ShloMosaic.Lib.StableHlo.RunRead

@[expose] public section

noncomputable section

namespace Cert.KernelIdeal.Hand

open Idealize.ShloMosaic Cert.KernelIdeal Cert.KernelIdeal.Gen Idealize.ShloMosaic.TcCoe Cert.Spec

set_option maxRecDepth 16384

variable {F : FTy → Type} [FloatOps F]
variable (m : (ℓ : Loc nD τ sig) → Buf (Elt F) ℓ)

/-- The position, counted from the end when negative. -/
def posF (arg2 : (⟨S1, .i32⟩ : BufTy).Contents (Elt F)) : (⟨S_, .i32⟩ : BufTy).Contents (Elt F) :=
  select (cmpi .slt (shapeCast S_ arg2 shapeCasts_S1_S_) (constantI S_ 32 0#32))
    (addi (shapeCast S_ arg2 shapeCasts_S1_S_) (constantI S_ 32 16#32)) (shapeCast S_ arg2 shapeCasts_S1_S_)

theorem posF_eq (V : Valuation τ sig (Elt F)) :
    StableHlo.after (hostOps0.take 8) V (Proc.devRef .tc main_call0_v3) = posF (V (Proc.devRef .tc main_arg2)) := by
  simp only [hostOps0, List.take]
  after_reads_simp
  rfl

/-- The hidden states at the chosen position. -/
def rowsF (arg2 : (⟨S1, .i32⟩ : BufTy).Contents (Elt F)) (arg1 : (⟨S128x16x2048, .f32⟩ : BufTy).Contents (Elt F)) : (⟨S128x2048, .f32⟩ : BufTy).Contents (Elt F) :=
  shapeCast S128x2048 (Host.dynamicSlice S128x1x2048 arg1 ![0, (posF arg2 (Shape.Idx.first h_S_)).toInt, 0] sliceFits_S128x16x2048_S128x1x2048) shapeCasts_S128x1x2048_S128x2048

theorem rowsF_eq (c : Dev nD) : V m c main_call0_v5 = rowsF (m (c, Proc.devRef .tc main_arg2)) (m (c, Proc.devRef .tc main_arg1)) := by
  unfold V hostOps0
  after_reads_simp
  refine congrArg (fun f => shapeCast S128x2048 (Host.dynamicSlice S128x1x2048 (m (c, Proc.devRef .tc main_arg1) : (⟨S128x16x2048, .f32⟩ : BufTy).Contents (Elt F)) f sliceFits_S128x16x2048_S128x1x2048) shapeCasts_S128x1x2048_S128x2048) (funext fun k => ?_)
  match k with
  | ⟨0, _⟩ => rfl
  | ⟨1, _⟩ =>
    show BitVec.toInt ((StableHlo.after (hostOps0.take 8) (fun b => m (c, b)) (Proc.devRef .tc main_call0_v3) : (⟨S_, .i32⟩ : BufTy).Contents (Elt F)) (Shape.Idx.first h_S_)) = _
    rw [posF_eq]
    rfl
  | ⟨2, _⟩ => rfl

theorem rowsF_apply (arg2 : (⟨S1, .i32⟩ : BufTy).Contents (Elt F)) (arg1 : (⟨S128x16x2048, .f32⟩ : BufTy).Contents (Elt F))
    (h1 : -16 ≤ (arg2 (ix1 0) : BitVec 32).toInt) (h2 : (arg2 (ix1 0) : BitVec 32).toInt < 16) (s : Fin 128) (k : Fin 2048) :
    rowsF arg2 arg1 (ix2 s k) = arg1 (ix3 s (posIx (arg2 (ix1 0))) k) := by
  pointwise [rowsF, posF]
  rw [posIx_wrap h1 h2]
  congr 1
  refine (ix3_inj ..).mpr ⟨Fin.ext ?_, Fin.ext ?_, Fin.ext ?_⟩
  · show Host.clampedStart S128x16x2048 S128x1x2048 rfl _ _ + s.val = s.val
    rw [Host.clampedStart_of_le _ _ _ 0 rfl (by decide)]; omega
  · show Host.clampedStart S128x16x2048 S128x1x2048 rfl _ _ = _
    exact Host.clampedStart_of_le _ _ _ _ rfl (by have := (posIx (arg2 (ix1 0))).isLt; show _ + 1 ≤ 16; omega)
  · show Host.clampedStart S128x16x2048 S128x1x2048 rfl _ _ + k.val = k.val
    rw [Host.clampedStart_of_le _ _ _ 0 rfl (by decide)]; omega

theorem idx0 : ∀ t : Fin cfg0.N, win0_0.index t = ![0, 0] := by decide +kernel
theorem idx1 : ∀ t : Fin cfg0.N, win0_1.index t = ![2 * t.val, 0] := by decide +kernel
theorem idx2 : ∀ t : Fin cfg0.N, win0_2.index t = ![2 * t.val + 1, 0] := by decide +kernel
theorem idx3 : ∀ t : Fin cfg0.N, win0_3.index t = ![2 * t.val, 0, 0] := by decide +kernel
theorem idx4 : ∀ t : Fin cfg0.N, win0_4.index t = ![2 * t.val + 1, 0, 0] := by decide +kernel

theorem lt50 (t : Fin cfg0.N) : t.val < 50 := lt_of_lt_of_eq t.isLt (show cfg0.N = 50 from N_0)

theorem blk0 (c : Dev nD) (t : Fin cfg0.N) (j : Fin 128) (k : Fin 2048) :
    iblk m c 0 t (ix2 j k) = (V m c main_call0_v5 : S128x2048.Idx → Elt F .f32) (ix2 j k) := by
  blk_ext [iblk, idx0]

theorem blk1 (c : Dev nD) (t : Fin cfg0.N) (j : Fin 1000) (k : Fin 2048) :
    iblk m c 1 t (ix2 j k) = m ((c : Thread nD τ).loc main_arg0) (ix2 ⟨2000 * t.val + j.val, by have := lt50 t; omega⟩ k) := by
  blk_ext [iblk, V, idx1]

theorem blk2 (c : Dev nD) (t : Fin cfg0.N) (j : Fin 1000) (k : Fin 2048) :
    iblk m c 2 t (ix2 j k) = m ((c : Thread nD τ).loc main_arg0) (ix2 ⟨2000 * t.val + 1000 + j.val, by have := lt50 t; omega⟩ k) := by
  blk_ext [iblk, V, idx2]

theorem bias_read (c : Dev nD) (a : Fin 100) (j : Fin 1000) :
    (V m c main_call0_v6 : S100x1x1000.Idx → Elt F .f32) (ix3 a 0 j) = m ((c : Thread nD τ).loc main_arg6) (ix1 ⟨a.val * 1000 + j.val, by omega⟩) := by
  entry_read
  pointwise

theorem blk3 (c : Dev nD) (t : Fin cfg0.N) (j : Fin 1000) :
    iblk m c 3 t (ix3 0 0 j) = m ((c : Thread nD τ).loc main_arg6) (ix1 ⟨2000 * t.val + j.val, by have := lt50 t; omega⟩) := by
  have e : iblk m c 3 t (ix3 0 0 j) = (V m c main_call0_v6 : S100x1x1000.Idx → Elt F .f32) (ix3 ⟨2 * t.val, by have := lt50 t; omega⟩ 0 j) := by
    blk_ext [iblk, idx3]
  rw [e, bias_read]
  congr 2
  exact Fin.ext (by show 2 * t.val * 1000 + j.val = 2000 * t.val + j.val; omega)

theorem blk4 (c : Dev nD) (t : Fin cfg0.N) (j : Fin 1000) :
    iblk m c 4 t (ix3 0 0 j) = m ((c : Thread nD τ).loc main_arg6) (ix1 ⟨2000 * t.val + 1000 + j.val, by have := lt50 t; omega⟩) := by
  have e : iblk m c 4 t (ix3 0 0 j) = (V m c main_call0_v6 : S100x1x1000.Idx → Elt F .f32) (ix3 ⟨2 * t.val + 1, by have := lt50 t; omega⟩ 0 j) := by
    blk_ext [iblk, idx4]
  rw [e, bias_read]
  congr 2
  exact Fin.ext (by show (2 * t.val + 1) * 1000 + j.val = 2000 * t.val + 1000 + j.val; omega)

end Cert.KernelIdeal.Hand

end
-- ==== Proof.Kernel.Value.lean ====
/-
  The kernel's value over the extended reals: after `n + 1` grid points the two accumulators hold, for each row, the
  largest score among the first `2000 (n + 1)` words and the first word with that score; after all fifty points the
  output is the first word with the largest score of the vocabulary.
-/
module

public import proofs.«01_k».proof.Proof.Kernel.Rows

@[expose] public section

noncomputable section

namespace Cert.KernelIdeal.Hand

open Idealize.ShloMosaic Cert.KernelIdeal Cert.KernelIdeal.Gen Idealize.ShloMosaic.TcCoe Cert.Spec Cert.FirstMax

set_option maxRecDepth 16384

/-- One grid point, a row at a time: from what its two blocks of scores are to what the point's payloads compute. -/
theorem block_point (L : ℕ → EReal) (i : grid0.Coords) (t : ℕ) (hi : (i 0).val = t) (ht : t < 50)
    (x0 : Vec Ideal S128x2048 .f32) (x1 x2 : Vec Ideal S1000x2048 .f32) (x3 x4 : Vec Ideal S1x1x1000 .f32) (s : Fin 128)
    (ha : ∀ j : Fin 1000, k0_pay9 x0 x1 x3 (ix2 s j) = L (2000 * t + j))
    (hb : ∀ j : Fin 1000, k0_pay12 x0 x2 x4 (ix2 s j) = L (2000 * t + 1000 + j)) :
    ∃ k, FirstOn L (2000 * t) (2000 * t + 2000) k (blockVal x0 x1 x2 x3 x4 (ix1 s)) ∧
      blockIdx i x0 x1 x2 x3 x4 (ix1 s) = BitVec.ofNat 32 k := by
  obtain ⟨ka, ka1, fa, ea⟩ := block_first L (2000 * t) (fun j => k0_pay9 x0 x1 x3 (ix2 s j)) ha
  obtain ⟨kb, kb1, fb, eb⟩ := block_first L (2000 * t + 1000) (fun j => k0_pay12 x0 x2 x4 (ix2 s j)) hb
  have va : k0_pay10 x0 x1 x3 (ix1 s) = Finset.fold max (Ideal.ofBits FTy.f32 0xFF800000#32) (fun j => k0_pay9 x0 x1 x3 (ix2 s j)) Finset.univ := by
    pointwise [k0_pay10]
  have vb : k0_pay13 x0 x2 x4 (ix1 s) = Finset.fold max (Ideal.ofBits FTy.f32 0xFF800000#32) (fun j => k0_pay12 x0 x2 x4 (ix2 s j)) Finset.univ := by
    pointwise [k0_pay13]
  rw [← va] at fa ea
  rw [← vb] at fb eb
  have hm : IntOp.muli (BitVec.ofNat 32 (i 0).val) 2000#32 = BitVec.ofNat 32 (2000 * t) := by
    rw [hi]; apply BitVec.eq_of_toNat_eq; simp only [IntOp.muli, BitVec.toNat_mul, BitVec.toNat_ofNat]; omega
  have ia : k0_pay11 i x0 x1 x3 (ix1 s) = BitVec.ofNat 32 (2000 * t + ka) := by
    pointwise [k0_pay11]
    rw [ea, Scalar.muli, hm]
    apply BitVec.eq_of_toNat_eq; simp only [IntOp.addi, BitVec.toNat_add, BitVec.toNat_ofNat]; omega
  have iv : blockIdx i x0 x1 x2 x3 x4 (ix1 s) = if k0_pay10 x0 x1 x3 (ix1 s) < k0_pay13 x0 x2 x4 (ix1 s) then BitVec.ofNat 32 (2000 * t + 1000 + kb) else BitVec.ofNat 32 (2000 * t + ka) := by
    pointwise [blockIdx, k0_pay3, k0_pay14, k0_pay1]
    rw [eb, Scalar.muli, hm, ia]
    refine if_congr Iff.rfl ?_ rfl
    apply BitVec.eq_of_toNat_eq; simp only [IntOp.addi, Scalar.addi, BitVec.toNat_add, BitVec.toNat_ofNat]; omega
  have vv : blockVal x0 x1 x2 x3 x4 (ix1 s) = if k0_pay10 x0 x1 x3 (ix1 s) < k0_pay13 x0 x2 x4 (ix1 s) then k0_pay13 x0 x2 x4 (ix1 s) else k0_pay10 x0 x1 x3 (ix1 s) := by
    pointwise [blockVal, k0_pay2, k0_pay1]
  refine ⟨_, ?_, iv.trans (apply_ite (BitVec.ofNat 32) _ _ _).symm⟩
  rw [vv]
  exact fa.join fb

/-- One step of the accumulators at a row. -/
theorem step_first {L : ℕ → EReal} {a b k k' : ℕ} {s : Fin 128} {bv acc : Vec Ideal S128 .f32} {bi acci : Vec Ideal S128 .i32}
    (f : FirstOn L 0 a k (acc (ix1 s))) (e : acci (ix1 s) = BitVec.ofNat 32 k)
    (f' : FirstOn L a b k' (bv (ix1 s))) (e' : bi (ix1 s) = BitVec.ofNat 32 k') :
    ∃ k, FirstOn L 0 b k (nextVal bv acc (ix1 s)) ∧ nextIdx bv acc bi acci (ix1 s) = BitVec.ofNat 32 k := by
  have hv : nextVal bv acc (ix1 s) = if acc (ix1 s) < bv (ix1 s) then bv (ix1 s) else acc (ix1 s) := by
    pointwise [nextVal]
  have hi : nextIdx bv acc bi acci (ix1 s) = if acc (ix1 s) < bv (ix1 s) then bi (ix1 s) else acci (ix1 s) := by
    pointwise [nextIdx]
  refine ⟨if acc (ix1 s) < bv (ix1 s) then k' else k, ?_, (hi.trans ?_).trans (apply_ite (BitVec.ofNat 32) _ _ _).symm⟩
  · rw [hv]; exact f.join f'
  · rw [e, e']

variable (m : (ℓ : Loc nD τ sig) → Buf (Elt Ideal) ℓ)

/-- The scores of row `s`, from the arguments. -/
def rowScore (c : Dev nD) (s : Fin 128) : ℕ → EReal :=
  score (fun k => m ((c : Thread nD τ).loc main_arg1) (ix3 s (posIx (m ((c : Thread nD τ).loc main_arg2) (ix1 0))) k))
    (fun v k => m ((c : Thread nD τ).loc main_arg0) (ix2 v k)) (fun v => m ((c : Thread nD τ).loc main_arg6) (ix1 v))

variable (c : Dev nD) (h1 : -16 ≤ BitVec.toInt (m ((c : Thread nD τ).loc main_arg2) (ix1 0))) (h2 : BitVec.toInt (m ((c : Thread nD τ).loc main_arg2) (ix1 0)) < 16)

include h1 h2

theorem point_first (t : Fin cfg0.N) (s : Fin 128) :
    ∃ k, FirstOn (rowScore m c s) (2000 * t.val) (2000 * t.val + 2000) k (pointVal m c t (ix1 s)) ∧
      pointIdx m c t (ix1 s) = BitVec.ofNat 32 k := by
  have hc : ∀ t : Fin cfg0.N, (grid0.coords t 0).val = t.val := by decide +kernel
  have ht := lt50 t
  refine block_point _ _ t.val (hc t) ht _ _ _ _ _ s (fun j => ?_) (fun j => ?_)
  · rw [rowScore, score_of _ _ _ _ (by omega)]
    pointwise [k0_pay9]
    refine congr (congrArg _ (Finset.sum_congr rfl fun k _ => ?_)) (blk3 m c t j)
    refine congr (congrArg _ ?_) (blk1 m c t j k)
    rw [blk0, rowsF_eq]
    exact rowsF_apply _ _ h1 h2 s k
  · rw [rowScore, score_of _ _ _ _ (by omega)]
    pointwise [k0_pay12]
    refine congr (congrArg _ (Finset.sum_congr rfl fun k _ => ?_)) (blk4 m c t j)
    refine congr (congrArg _ ?_) (blk2 m c t j k)
    rw [blk0, rowsF_eq]
    exact rowsF_apply _ _ h1 h2 s k

/-- The accumulators after point `n`. -/
theorem accs_first (s : Fin 128) : ∀ (n : ℕ) (h : n < cfg0.N) (N : ℕ), N = 2000 * n + 2000 →
    ∃ k, FirstOn (rowScore m c s) 0 N k ((accs m c n h).1 (ix1 s)) ∧ (accs m c n h).2 (ix1 s) = BitVec.ofNat 32 k
  | 0, h, N, hN => by
    obtain ⟨k, f, e⟩ := point_first m c h1 h2 ⟨0, h⟩ s
    have hN' : 2000 * (⟨0, h⟩ : Fin cfg0.N).val + 2000 = N := hN.symm
    have h0 : 2000 * (⟨0, h⟩ : Fin cfg0.N).val = 0 := by dsimp only
    rw [hN', h0] at f
    refine ⟨k, ?_, ?_⟩
    · rw [accs]
      dsimp only
      exact f
    · rw [accs]
      dsimp only
      exact e
  | n + 1, h, N, hN => by
    obtain ⟨k, f, e⟩ := accs_first s n (Nat.lt_of_succ_lt h) (2000 * (n + 1)) (by omega)
    obtain ⟨k', f', e'⟩ := point_first m c h1 h2 ⟨n + 1, h⟩ s
    have hN' : 2000 * (⟨n + 1, h⟩ : Fin cfg0.N).val + 2000 = N := hN.symm
    have h0 : 2000 * (⟨n + 1, h⟩ : Fin cfg0.N).val = 2000 * (n + 1) := by dsimp only
    rw [hN', h0] at f'
    have := step_first f e f' e'
    rw [accs]
    dsimp only
    exact this

/-- The kernel's result: the first word with the largest score. -/
theorem result_first (s : Fin 128) :
    ∃ k v, FirstOn (rowScore m c s) 0 100000 k v ∧ Value.G5 m c (ix1 s) = BitVec.ofNat 32 k := by
  obtain ⟨k, f, e⟩ := accs_first m c h1 h2 s 49 (lt_of_lt_of_eq (by decide) N_0.symm) 100000 rfl
  exact ⟨k, _, f, by rw [result_eq]; exact e⟩

end Cert.KernelIdeal.Hand

end
-- ==== Proof.Ref.Ops.lean ====
/-
  The operations of the reference's @main in order, as lists of host operations: ten stretches and the generator of
  random words in four, before the last. What each stretch leaves in its results is read in the modules beside this one;
  here are the lists, that the program is these lists run in order, and the facts its run asks of every operation.
-/
module

public import proofs.«01_k».proof.Proof.Gen.ReferenceIdeal
public import Idealize.ShloMosaic.Lib.StableHlo.RunHlo

@[expose] public section

noncomputable section

namespace Cert.ReferenceIdeal.Hand

open Idealize.ShloMosaic Idealize.ShloMosaic.TcCoe Idealize.SL.Sem Cert.ReferenceIdeal
open Idealize.ShloMosaic.StableHlo (seq seq_append after tcRefs)
open Facts₀ Facts

variable {F : FTy → Type} [FloatOps F]

/-- The row of hidden states the position names, its products with the embedding, and the bias: the logits. -/
def logitsOps : List (HloOp τ sig (Elt F)) := [
  StableHlo.nullary main_call0_c ((constantI S_ 32 0#32) : (⟨S_, .i32⟩ : BufTy).Contents (Elt F)),
  StableHlo.unary main_call0_c main_call0_v0 ((broadcastInDim S1 ![] bcast_S_S1) : (⟨S_, .i32⟩ : BufTy).Contents (Elt F) → (⟨S1, .i32⟩ : BufTy).Contents (Elt F)),
  StableHlo.binary main_arg2 main_call0_v0 main_call0_v1 ((cmpi .slt) : (⟨S1, .i32⟩ : BufTy).Contents (Elt F) → (⟨S1, .i32⟩ : BufTy).Contents (Elt F) → (⟨S1, .i1⟩ : BufTy).Contents (Elt F)),
  StableHlo.nullary main_call0_c_0 ((constantI S_ 32 16#32) : (⟨S_, .i32⟩ : BufTy).Contents (Elt F)),
  StableHlo.unary main_call0_c_0 main_call0_v2 ((broadcastInDim S1 ![] bcast_S_S1) : (⟨S_, .i32⟩ : BufTy).Contents (Elt F) → (⟨S1, .i32⟩ : BufTy).Contents (Elt F)),
  StableHlo.binary main_arg2 main_call0_v2 main_call0_v3 (addi : (⟨S1, .i32⟩ : BufTy).Contents (Elt F) → (⟨S1, .i32⟩ : BufTy).Contents (Elt F) → (⟨S1, .i32⟩ : BufTy).Contents (Elt F)),
  StableHlo.ternary main_call0_v1 main_call0_v3 main_arg2 main_call0_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
  StableHlo.unary main_call0_v4 main_call0_v5 ((broadcastInDim S1x1 ![0] bcast_S1_S1x1_0) : (⟨S1, .i32⟩ : BufTy).Contents (Elt F) → (⟨S1x1, .i32⟩ : BufTy).Contents (Elt F)),
  StableHlo.nullary main_call0_c_1 ((constantI S1 32 15#32) : (⟨S1, .i32⟩ : BufTy).Contents (Elt F)),
  StableHlo.nullary main_call0_c_2 ((constantI S_ 32 0#32) : (⟨S_, .i32⟩ : BufTy).Contents (Elt F)),
  StableHlo.unary main_call0_c_2 main_call0_v6 ((broadcastInDim S1x1 ![] bcast_S_S1x1) : (⟨S_, .i32⟩ : BufTy).Contents (Elt F) → (⟨S1x1, .i32⟩ : BufTy).Contents (Elt F)),
  StableHlo.binary main_call0_v5 main_call0_v6 main_call0_v7 ((cmpi .sge) : (⟨S1x1, .i32⟩ : BufTy).Contents (Elt F) → (⟨S1x1, .i32⟩ : BufTy).Contents (Elt F) → (⟨S1x1, .i1⟩ : BufTy).Contents (Elt F)),
  StableHlo.unary main_call0_c_1 main_call0_v8 ((broadcastInDim S1x1 ![1] bcast_S1_S1x1_1) : (⟨S1, .i32⟩ : BufTy).Contents (Elt F) → (⟨S1x1, .i32⟩ : BufTy).Contents (Elt F)),
  StableHlo.binary main_call0_v5 main_call0_v8 main_call0_v9 ((cmpi .sle) : (⟨S1x1, .i32⟩ : BufTy).Contents (Elt F) → (⟨S1x1, .i32⟩ : BufTy).Contents (Elt F) → (⟨S1x1, .i1⟩ : BufTy).Contents (Elt F)),
  StableHlo.binary main_call0_v7 main_call0_v9 main_call0_v10 (andi : (⟨S1x1, .i1⟩ : BufTy).Contents (Elt F) → (⟨S1x1, .i1⟩ : BufTy).Contents (Elt F) → (⟨S1x1, .i1⟩ : BufTy).Contents (Elt F)),
  StableHlo.nullary main_call0_c_3 ((constantI S_ 1 1#1) : (⟨S_, .i1⟩ : BufTy).Contents (Elt F)),
  StableHlo.TRef.binary (.of main_call0_v10 : StableHlo.TRef sig ⟨S1x1, .i1⟩) (.of main_call0_c_3 : StableHlo.TRef sig ⟨S_, .i1⟩) (.of main_call0_v11 : StableHlo.TRef sig ⟨S1, .i1⟩) ((fun x v => Host.reduce IntOp.andi x v reducesTo_S1x1_S1_d1 h_S_) : (⟨S1x1, .i1⟩ : BufTy).Contents (Elt F) → (⟨S_, .i1⟩ : BufTy).Contents (Elt F) → (⟨S1, .i1⟩ : BufTy).Contents (Elt F)),
  StableHlo.binary main_arg1 main_call0_v5 main_call0_v12 ((fun x i => Host.gather gather_S128x16x2048_S1x1_S128x1x2048_02_1_n_n_1_1_12812048 x i) : (⟨S128x16x2048, .f32⟩ : BufTy).Contents (Elt F) → (⟨S1x1, .i32⟩ : BufTy).Contents (Elt F) → (⟨S128x1x2048, .f32⟩ : BufTy).Contents (Elt F)),
  StableHlo.unary main_call0_v11 main_call0_v13 ((broadcastInDim S128x1x2048 ![1] bcast_S1_S128x1x2048_1) : (⟨S1, .i1⟩ : BufTy).Contents (Elt F) → (⟨S128x1x2048, .i1⟩ : BufTy).Contents (Elt F)),
  StableHlo.nullary main_call0_cst ((constant S_ .f32 0x7FC00000#32) : (⟨S_, .f32⟩ : BufTy).Contents (Elt F)),
  StableHlo.unary main_call0_cst main_call0_v14 ((broadcastInDim S128x1x2048 ![] bcast_S_S128x1x2048) : (⟨S_, .f32⟩ : BufTy).Contents (Elt F) → (⟨S128x1x2048, .f32⟩ : BufTy).Contents (Elt F)),
  StableHlo.ternary main_call0_v13 main_call0_v12 main_call0_v14 main_v0 (select : (⟨S128x1x2048, .i1⟩ : BufTy).Contents (Elt F) → (⟨S128x1x2048, .f32⟩ : BufTy).Contents (Elt F) → (⟨S128x1x2048, .f32⟩ : BufTy).Contents (Elt F) → (⟨S128x1x2048, .f32⟩ : BufTy).Contents (Elt F)),
  StableHlo.reshape main_v0 main_v1 (rfl : (.f32 : EltTy) = .f32) shapeCasts_S128x1x2048_S128x2048,
  StableHlo.unary main_arg0 main_v2 ((transpose S2048x100000 [1, 0] · transposes_S100000x2048_S2048x100000_1_0) : (⟨S100000x2048, .f32⟩ : BufTy).Contents (Elt F) → (⟨S2048x100000, .f32⟩ : BufTy).Contents (Elt F)),
  StableHlo.binary main_v1 main_v2 main_v3 ((fun l r => Host.dotGeneral dot_S128x2048_S2048x100000_S128x100000_1_0_0_1_n_n none l r) : (⟨S128x2048, .f32⟩ : BufTy).Contents (Elt F) → (⟨S2048x100000, .f32⟩ : BufTy).Contents (Elt F) → (⟨S128x100000, .f32⟩ : BufTy).Contents (Elt F)),
  StableHlo.unary main_arg6 main_v4 (broadcastInDim S1x100000 ![1] bcast_S100000_S1x100000_1 : (⟨S100000, .f32⟩ : BufTy).Contents (Elt F) → (⟨S1x100000, .f32⟩ : BufTy).Contents (Elt F)),
  StableHlo.unary main_v4 main_v5 (broadcastInDim S128x100000 ![0, 1] bcast_S1x100000_S128x100000_0_1 : (⟨S1x100000, .f32⟩ : BufTy).Contents (Elt F) → (⟨S128x100000, .f32⟩ : BufTy).Contents (Elt F)),
  StableHlo.binary main_v3 main_v5 main_v6 (addf : (⟨S128x100000, .f32⟩ : BufTy).Contents (Elt F) → (⟨S128x100000, .f32⟩ : BufTy).Contents (Elt F) → (⟨S128x100000, .f32⟩ : BufTy).Contents (Elt F))]

/-- Division by the temperature and the softmax along the vocabulary, with its negation. -/
def softmaxOps : List (HloOp τ sig (Elt F)) := [
  StableHlo.unary main_arg3 main_v7 (broadcastInDim S128x1 ![0] bcast_S128_S128x1_0 : (⟨S128, .f32⟩ : BufTy).Contents (Elt F) → (⟨S128x1, .f32⟩ : BufTy).Contents (Elt F)),
  StableHlo.unary main_v7 main_v8 (broadcastInDim S128x100000 ![0, 1] bcast_S128x1_S128x100000_0_1 : (⟨S128x1, .f32⟩ : BufTy).Contents (Elt F) → (⟨S128x100000, .f32⟩ : BufTy).Contents (Elt F)),
  StableHlo.binary main_v6 main_v8 main_v9 (Host.divf : (⟨S128x100000, .f32⟩ : BufTy).Contents (Elt F) → (⟨S128x100000, .f32⟩ : BufTy).Contents (Elt F) → (⟨S128x100000, .f32⟩ : BufTy).Contents (Elt F)),
  StableHlo.nullary main_cst (constant S_ .f32 0xFF800000#32),
  StableHlo.binary main_v9 main_cst main_v10 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.nullary main_cst_0 (constant S_ .f32 0xFF800000#32),
  StableHlo.unary main_cst_0 main_v11 (broadcastInDim S128 ![] bcast_S_S128 : (⟨S_, .f32⟩ : BufTy).Contents (Elt F) → (⟨S128, .f32⟩ : BufTy).Contents (Elt F)),
  StableHlo.binary main_v11 main_v10 main_v12 (maximumf : (⟨S128, .f32⟩ : BufTy).Contents (Elt F) → (⟨S128, .f32⟩ : BufTy).Contents (Elt F) → (⟨S128, .f32⟩ : BufTy).Contents (Elt F)),
  StableHlo.unary main_v12 main_v13 (broadcastInDim S128x1 ![0] bcast_S128_S128x1_0 : (⟨S128, .f32⟩ : BufTy).Contents (Elt F) → (⟨S128x1, .f32⟩ : BufTy).Contents (Elt F)),
  StableHlo.unary main_v13 main_v14 (broadcastInDim S128x100000 ![0, 1] bcast_S128x1_S128x100000_0_1 : (⟨S128x1, .f32⟩ : BufTy).Contents (Elt F) → (⟨S128x100000, .f32⟩ : BufTy).Contents (Elt F)),
  StableHlo.binary main_v9 main_v14 main_v15 (subf : (⟨S128x100000, .f32⟩ : BufTy).Contents (Elt F) → (⟨S128x100000, .f32⟩ : BufTy).Contents (Elt F) → (⟨S128x100000, .f32⟩ : BufTy).Contents (Elt F)),
  StableHlo.unary main_v15 main_v16 (Host.exp : (⟨S128x100000, .f32⟩ : BufTy).Contents (Elt F) → (⟨S128x100000, .f32⟩ : BufTy).Contents (Elt F)),
  StableHlo.nullary main_cst_1 (constant S_ .f32 0x00000000#32),
  StableHlo.binary main_v16 main_cst_1 main_v17 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.unary main_v17 main_v18 (broadcastInDim S128x1 ![0] bcast_S128_S128x1_0 : (⟨S128, .f32⟩ : BufTy).Contents (Elt F) → (⟨S128x1, .f32⟩ : BufTy).Contents (Elt F)),
  StableHlo.unary main_v18 main_v19 (broadcastInDim S128x100000 ![0, 1] bcast_S128x1_S128x100000_0_1 : (⟨S128x1, .f32⟩ : BufTy).Contents (Elt F) → (⟨S128x100000, .f32⟩ : BufTy).Contents (Elt F)),
  StableHlo.binary main_v16 main_v19 main_v20 (Host.divf : (⟨S128x100000, .f32⟩ : BufTy).Contents (Elt F) → (⟨S128x100000, .f32⟩ : BufTy).Contents (Elt F) → (⟨S128x100000, .f32⟩ : BufTy).Contents (Elt F)),
  StableHlo.unary main_v20 main_v21 (Host.negf : (⟨S128x100000, .f32⟩ : BufTy).Contents (Elt F) → (⟨S128x100000, .f32⟩ : BufTy).Contents (Elt F))]

/-- The stable argsort of the negated probabilities. -/
def orderOps : List (HloOp τ sig (Elt F)) := [
  StableHlo.nullary main_call1_v0 ((iotaInDim S128x100000 32 1) : (⟨S128x100000, .i32⟩ : BufTy).Contents (Elt F)),
  StableHlo.binary main_v21 main_call1_v0 main_call1_v1_0 ((fun x y => (Host.sort2 S128x100000 1 comparator_f32_i32_d1 x y).1) : (⟨S128x100000, .f32⟩ : BufTy).Contents (Elt F) → (⟨S128x100000, .i32⟩ : BufTy).Contents (Elt F) → (⟨S128x100000, .f32⟩ : BufTy).Contents (Elt F)),
  StableHlo.binary main_v21 main_call1_v0 main_v22 ((fun x y => (Host.sort2 S128x100000 1 comparator_f32_i32_d1 x y).2) : (⟨S128x100000, .f32⟩ : BufTy).Contents (Elt F) → (⟨S128x100000, .i32⟩ : BufTy).Contents (Elt F) → (⟨S128x100000, .i32⟩ : BufTy).Contents (Elt F))]

/-- The probabilities in that order. -/
def rankedOps : List (HloOp τ sig (Elt F)) := [
  StableHlo.nullary main_call2_c ((constantI S_ 32 0#32) : (⟨S_, .i32⟩ : BufTy).Contents (Elt F)),
  StableHlo.unary main_call2_c main_call2_v0 ((broadcastInDim S128x100000 ![] bcast_S_S128x100000) : (⟨S_, .i32⟩ : BufTy).Contents (Elt F) → (⟨S128x100000, .i32⟩ : BufTy).Contents (Elt F)),
  StableHlo.binary main_v22 main_call2_v0 main_call2_v1 ((cmpi .slt) : (⟨S128x100000, .i32⟩ : BufTy).Contents (Elt F) → (⟨S128x100000, .i32⟩ : BufTy).Contents (Elt F) → (⟨S128x100000, .i1⟩ : BufTy).Contents (Elt F)),
  StableHlo.nullary main_call2_c_0 ((constantI S_ 32 100000#32) : (⟨S_, .i32⟩ : BufTy).Contents (Elt F)),
  StableHlo.unary main_call2_c_0 main_call2_v2 ((broadcastInDim S128x100000 ![] bcast_S_S128x100000) : (⟨S_, .i32⟩ : BufTy).Contents (Elt F) → (⟨S128x100000, .i32⟩ : BufTy).Contents (Elt F)),
  StableHlo.binary main_v22 main_call2_v2 main_call2_v3 (addi : (⟨S128x100000, .i32⟩ : BufTy).Contents (Elt F) → (⟨S128x100000, .i32⟩ : BufTy).Contents (Elt F) → (⟨S128x100000, .i32⟩ : BufTy).Contents (Elt F)),
  StableHlo.ternary main_call2_v1 main_call2_v3 main_v22 main_call2_v4 (select : (⟨S128x100000, .i1⟩ : BufTy).Contents (Elt F) → (⟨S128x100000, .i32⟩ : BufTy).Contents (Elt F) → (⟨S128x100000, .i32⟩ : BufTy).Contents (Elt F) → (⟨S128x100000, .i32⟩ : BufTy).Contents (Elt F)),
  StableHlo.reshape main_call2_v4 main_call2_v5 (rfl : (.i32 : EltTy) = .i32) shapeCasts_S128x100000_S128x100000x1,
  StableHlo.nullary main_call2_c_1 ((constantI S1 32 99999#32) : (⟨S1, .i32⟩ : BufTy).Contents (Elt F)),
  StableHlo.nullary main_call2_c_2 ((constantI S_ 32 0#32) : (⟨S_, .i32⟩ : BufTy).Contents (Elt F)),
  StableHlo.unary main_call2_c_2 main_call2_v6 ((broadcastInDim S128x100000x1 ![] bcast_S_S128x100000x1) : (⟨S_, .i32⟩ : BufTy).Contents (Elt F) → (⟨S128x100000x1, .i32⟩ : BufTy).Contents (Elt F)),
  StableHlo.binary main_call2_v5 main_call2_v6 main_call2_v7 ((cmpi .sge) : (⟨S128x100000x1, .i32⟩ : BufTy).Contents (Elt F) → (⟨S128x100000x1, .i32⟩ : BufTy).Contents (Elt F) → (⟨S128x100000x1, .i1⟩ : BufTy).Contents (Elt F)),
  StableHlo.unary main_call2_c_1 main_call2_v8 ((broadcastInDim S1x1x1 ![2] bcast_S1_S1x1x1_2) : (⟨S1, .i32⟩ : BufTy).Contents (Elt F) → (⟨S1x1x1, .i32⟩ : BufTy).Contents (Elt F)),
  StableHlo.unary main_call2_v8 main_call2_v9 ((broadcastInDim S128x100000x1 ![0, 1, 2] bcast_S1x1x1_S128x100000x1_0_1_2) : (⟨S1x1x1, .i32⟩ : BufTy).Contents (Elt F) → (⟨S128x100000x1, .i32⟩ : BufTy).Contents (Elt F)),
  StableHlo.binary main_call2_v5 main_call2_v9 main_call2_v10 ((cmpi .sle) : (⟨S128x100000x1, .i32⟩ : BufTy).Contents (Elt F) → (⟨S128x100000x1, .i32⟩ : BufTy).Contents (Elt F) → (⟨S128x100000x1, .i1⟩ : BufTy).Contents (Elt F)),
  StableHlo.binary main_call2_v7 main_call2_v10 main_call2_v11 (andi : (⟨S128x100000x1, .i1⟩ : BufTy).Contents (Elt F) → (⟨S128x100000x1, .i1⟩ : BufTy).Contents (Elt F) → (⟨S128x100000x1, .i1⟩ : BufTy).Contents (Elt F)),
  StableHlo.nullary main_call2_c_3 ((constantI S_ 1 1#1) : (⟨S_, .i1⟩ : BufTy).Contents (Elt F)),
  StableHlo.TRef.binary (.of main_call2_v11 : StableHlo.TRef sig ⟨S128x100000x1, .i1⟩) (.of main_call2_c_3 : StableHlo.TRef sig ⟨S_, .i1⟩) (.of main_call2_v12 : StableHlo.TRef sig ⟨S128x100000, .i1⟩) ((fun x v => Host.reduce IntOp.andi x v reducesTo_S128x100000x1_S128x100000_d2 h_S_) : (⟨S128x100000x1, .i1⟩ : BufTy).Contents (Elt F) → (⟨S_, .i1⟩ : BufTy).Contents (Elt F) → (⟨S128x100000, .i1⟩ : BufTy).Contents (Elt F)),
  StableHlo.binary main_v20 main_call2_v5 main_call2_v13 ((fun x i => Host.gather gather_S128x100000_S128x100000x1_S128x100000_n_1_0_0_1_2_11 x i) : (⟨S128x100000, .f32⟩ : BufTy).Contents (Elt F) → (⟨S128x100000x1, .i32⟩ : BufTy).Contents (Elt F) → (⟨S128x100000, .f32⟩ : BufTy).Contents (Elt F)),
  StableHlo.nullary main_call2_cst ((constant S_ .f32 0x7FC00000#32) : (⟨S_, .f32⟩ : BufTy).Contents (Elt F)),
  StableHlo.unary main_call2_cst main_call2_v14 ((broadcastInDim S128x100000 ![] bcast_S_S128x100000) : (⟨S_, .f32⟩ : BufTy).Contents (Elt F) → (⟨S128x100000, .f32⟩ : BufTy).Contents (Elt F)),
  StableHlo.ternary main_call2_v12 main_call2_v13 main_call2_v14 main_v23 (select : (⟨S128x100000, .i1⟩ : BufTy).Contents (Elt F) → (⟨S128x100000, .f32⟩ : BufTy).Contents (Elt F) → (⟨S128x100000, .f32⟩ : BufTy).Contents (Elt F) → (⟨S128x100000, .f32⟩ : BufTy).Contents (Elt F))]

/-- The running sum, the two masks, and the division by what is kept. -/
def keptOps : List (HloOp τ sig (Elt F)) := [
  StableHlo.nullary main_call3_call0_cst ((constant S_ .f32 0x00000000#32) : (⟨S_, .f32⟩ : BufTy).Contents (Elt F)),
  StableHlo.unary main_call3_call0_cst main_call3_call0_v0 ((broadcastInDim S_ ![] bcast_S_S_) : (⟨S_, .f32⟩ : BufTy).Contents (Elt F) → (⟨S_, .f32⟩ : BufTy).Contents (Elt F)),
  StableHlo.binary main_v23 main_call3_call0_v0 main_v24 ((fun x v => Host.reduceWindowAdd ![1, 100000] ![1, 1] ![0, 99999] ![0, 0] x v reduceWindows_S128x100000_S128x100000_w1s1p0_0_w100000s1p99999_0 h_S_) : (⟨S128x100000, .f32⟩ : BufTy).Contents (Elt F) → (⟨S_, .f32⟩ : BufTy).Contents (Elt F) → (⟨S128x100000, .f32⟩ : BufTy).Contents (Elt F)),
  StableHlo.binary main_v24 main_v23 main_v25 (subf : (⟨S128x100000, .f32⟩ : BufTy).Contents (Elt F) → (⟨S128x100000, .f32⟩ : BufTy).Contents (Elt F) → (⟨S128x100000, .f32⟩ : BufTy).Contents (Elt F)),
  StableHlo.unary main_arg4 main_v26 (broadcastInDim S128x1 ![0] bcast_S128_S128x1_0 : (⟨S128, .f32⟩ : BufTy).Contents (Elt F) → (⟨S128x1, .f32⟩ : BufTy).Contents (Elt F)),
  StableHlo.unary main_v26 main_v27 (broadcastInDim S128x100000 ![0, 1] bcast_S128x1_S128x100000_0_1 : (⟨S128x1, .f32⟩ : BufTy).Contents (Elt F) → (⟨S128x100000, .f32⟩ : BufTy).Contents (Elt F)),
  StableHlo.binary main_v25 main_v27 main_v28 (cmpf .ogt : (⟨S128x100000, .f32⟩ : BufTy).Contents (Elt F) → (⟨S128x100000, .f32⟩ : BufTy).Contents (Elt F) → (⟨S128x100000, .i1⟩ : BufTy).Contents (Elt F)),
  StableHlo.nullary main_cst_2 (constant S_ .f32 0x00000000#32),
  StableHlo.unary main_cst_2 main_call4_v0 (id : (⟨S_, .f32⟩ : BufTy).Contents (Elt F) → (⟨S_, .f32⟩ : BufTy).Contents (Elt F)),
  StableHlo.unary main_call4_v0 main_call4_v1 ((broadcastInDim S128x100000 ![] bcast_S_S128x100000) : (⟨S_, .f32⟩ : BufTy).Contents (Elt F) → (⟨S128x100000, .f32⟩ : BufTy).Contents (Elt F)),
  StableHlo.ternary main_v28 main_call4_v1 main_v23 main_v29 (select : (⟨S128x100000, .i1⟩ : BufTy).Contents (Elt F) → (⟨S128x100000, .f32⟩ : BufTy).Contents (Elt F) → (⟨S128x100000, .f32⟩ : BufTy).Contents (Elt F) → (⟨S128x100000, .f32⟩ : BufTy).Contents (Elt F)),
  StableHlo.nullary main_v30 (iotaInDim S100000 32 0),
  StableHlo.unary main_v30 main_v31 (broadcastInDim S128x100000 ![1] bcast_S100000_S128x100000_1 : (⟨S100000, .i32⟩ : BufTy).Contents (Elt F) → (⟨S128x100000, .i32⟩ : BufTy).Contents (Elt F)),
  StableHlo.unary main_v28 main_v32 ((extui 32 · natLt_1_32) : (⟨S128x100000, .i1⟩ : BufTy).Contents (Elt F) → (⟨S128x100000, .i32⟩ : BufTy).Contents (Elt F)),
  StableHlo.unary main_arg5 main_v33 (broadcastInDim S128x1 ![0] bcast_S128_S128x1_0 : (⟨S128, .i32⟩ : BufTy).Contents (Elt F) → (⟨S128x1, .i32⟩ : BufTy).Contents (Elt F)),
  StableHlo.unary main_v33 main_v34 (broadcastInDim S128x100000 ![0, 1] bcast_S128x1_S128x100000_0_1 : (⟨S128x1, .i32⟩ : BufTy).Contents (Elt F) → (⟨S128x100000, .i32⟩ : BufTy).Contents (Elt F)),
  StableHlo.binary main_v32 main_v34 main_v35 (cmpi .sge : (⟨S128x100000, .i32⟩ : BufTy).Contents (Elt F) → (⟨S128x100000, .i32⟩ : BufTy).Contents (Elt F) → (⟨S128x100000, .i1⟩ : BufTy).Contents (Elt F)),
  StableHlo.nullary main_c (constantI S_ 32 0#32),
  StableHlo.unary main_c main_v36 (broadcastInDim S128x100000 ![] bcast_S_S128x100000 : (⟨S_, .i32⟩ : BufTy).Contents (Elt F) → (⟨S128x100000, .i32⟩ : BufTy).Contents (Elt F)),
  StableHlo.binary main_v31 main_v36 main_v37 (cmpi .ne : (⟨S128x100000, .i32⟩ : BufTy).Contents (Elt F) → (⟨S128x100000, .i32⟩ : BufTy).Contents (Elt F) → (⟨S128x100000, .i1⟩ : BufTy).Contents (Elt F)),
  StableHlo.nullary main_cst_3 (constant S_ .f32 0x00000000#32),
  StableHlo.unary main_cst_3 main_call5_v0 (id : (⟨S_, .f32⟩ : BufTy).Contents (Elt F) → (⟨S_, .f32⟩ : BufTy).Contents (Elt F)),
  StableHlo.unary main_call5_v0 main_call5_v1 ((broadcastInDim S128x100000 ![] bcast_S_S128x100000) : (⟨S_, .f32⟩ : BufTy).Contents (Elt F) → (⟨S128x100000, .f32⟩ : BufTy).Contents (Elt F)),
  StableHlo.ternary main_v37 main_call5_v1 main_v29 main_v38 (select : (⟨S128x100000, .i1⟩ : BufTy).Contents (Elt F) → (⟨S128x100000, .f32⟩ : BufTy).Contents (Elt F) → (⟨S128x100000, .f32⟩ : BufTy).Contents (Elt F) → (⟨S128x100000, .f32⟩ : BufTy).Contents (Elt F)),
  StableHlo.nullary main_cst_4 (constant S_ .f32 0x00000000#32),
  StableHlo.binary main_v38 main_cst_4 main_v39 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.unary main_v39 main_v40 (broadcastInDim S128x1 ![0] bcast_S128_S128x1_0 : (⟨S128, .f32⟩ : BufTy).Contents (Elt F) → (⟨S128x1, .f32⟩ : BufTy).Contents (Elt F)),
  StableHlo.unary main_v40 main_v41 (broadcastInDim S128x100000 ![0, 1] bcast_S128x1_S128x100000_0_1 : (⟨S128x1, .f32⟩ : BufTy).Contents (Elt F) → (⟨S128x100000, .f32⟩ : BufTy).Contents (Elt F)),
  StableHlo.binary main_v38 main_v41 main_v42 (Host.divf : (⟨S128x100000, .f32⟩ : BufTy).Contents (Elt F) → (⟨S128x100000, .f32⟩ : BufTy).Contents (Elt F) → (⟨S128x100000, .f32⟩ : BufTy).Contents (Elt F))]

/-- The argsort of the order: its inverse permutation. -/
def unorderOps : List (HloOp τ sig (Elt F)) := [
  StableHlo.nullary main_call6_v0 ((iotaInDim S128x100000 32 1) : (⟨S128x100000, .i32⟩ : BufTy).Contents (Elt F)),
  StableHlo.binary main_v22 main_call6_v0 main_call6_v1_0 ((fun x y => (Host.sort2 S128x100000 1 comparator_i32_i32_d1 x y).1) : (⟨S128x100000, .i32⟩ : BufTy).Contents (Elt F) → (⟨S128x100000, .i32⟩ : BufTy).Contents (Elt F) → (⟨S128x100000, .i32⟩ : BufTy).Contents (Elt F)),
  StableHlo.binary main_v22 main_call6_v0 main_v43 ((fun x y => (Host.sort2 S128x100000 1 comparator_i32_i32_d1 x y).2) : (⟨S128x100000, .i32⟩ : BufTy).Contents (Elt F) → (⟨S128x100000, .i32⟩ : BufTy).Contents (Elt F) → (⟨S128x100000, .i32⟩ : BufTy).Contents (Elt F))]

/-- The kept probabilities put back in vocabulary order. -/
def unrankedOps : List (HloOp τ sig (Elt F)) := [
  StableHlo.nullary main_call7_c ((constantI S_ 32 0#32) : (⟨S_, .i32⟩ : BufTy).Contents (Elt F)),
  StableHlo.unary main_call7_c main_call7_v0 ((broadcastInDim S128x100000 ![] bcast_S_S128x100000) : (⟨S_, .i32⟩ : BufTy).Contents (Elt F) → (⟨S128x100000, .i32⟩ : BufTy).Contents (Elt F)),
  StableHlo.binary main_v43 main_call7_v0 main_call7_v1 ((cmpi .slt) : (⟨S128x100000, .i32⟩ : BufTy).Contents (Elt F) → (⟨S128x100000, .i32⟩ : BufTy).Contents (Elt F) → (⟨S128x100000, .i1⟩ : BufTy).Contents (Elt F)),
  StableHlo.nullary main_call7_c_0 ((constantI S_ 32 100000#32) : (⟨S_, .i32⟩ : BufTy).Contents (Elt F)),
  StableHlo.unary main_call7_c_0 main_call7_v2 ((broadcastInDim S128x100000 ![] bcast_S_S128x100000) : (⟨S_, .i32⟩ : BufTy).Contents (Elt F) → (⟨S128x100000, .i32⟩ : BufTy).Contents (Elt F)),
  StableHlo.binary main_v43 main_call7_v2 main_call7_v3 (addi : (⟨S128x100000, .i32⟩ : BufTy).Contents (Elt F) → (⟨S128x100000, .i32⟩ : BufTy).Contents (Elt F) → (⟨S128x100000, .i32⟩ : BufTy).Contents (Elt F)),
  StableHlo.ternary main_call7_v1 main_call7_v3 main_v43 main_call7_v4 (select : (⟨S128x100000, .i1⟩ : BufTy).Contents (Elt F) → (⟨S128x100000, .i32⟩ : BufTy).Contents (Elt F) → (⟨S128x100000, .i32⟩ : BufTy).Contents (Elt F) → (⟨S128x100000, .i32⟩ : BufTy).Contents (Elt F)),
  StableHlo.reshape main_call7_v4 main_call7_v5 (rfl : (.i32 : EltTy) = .i32) shapeCasts_S128x100000_S128x100000x1,
  StableHlo.nullary main_call7_c_1 ((constantI S1 32 99999#32) : (⟨S1, .i32⟩ : BufTy).Contents (Elt F)),
  StableHlo.nullary main_call7_c_2 ((constantI S_ 32 0#32) : (⟨S_, .i32⟩ : BufTy).Contents (Elt F)),
  StableHlo.unary main_call7_c_2 main_call7_v6 ((broadcastInDim S128x100000x1 ![] bcast_S_S128x100000x1) : (⟨S_, .i32⟩ : BufTy).Contents (Elt F) → (⟨S128x100000x1, .i32⟩ : BufTy).Contents (Elt F)),
  StableHlo.binary main_call7_v5 main_call7_v6 main_call7_v7 ((cmpi .sge) : (⟨S128x100000x1, .i32⟩ : BufTy).Contents (Elt F) → (⟨S128x100000x1, .i32⟩ : BufTy).Contents (Elt F) → (⟨S128x100000x1, .i1⟩ : BufTy).Contents (Elt F)),
  StableHlo.unary main_call7_c_1 main_call7_v8 ((broadcastInDim S1x1x1 ![2] bcast_S1_S1x1x1_2) : (⟨S1, .i32⟩ : BufTy).Contents (Elt F) → (⟨S1x1x1, .i32⟩ : BufTy).Contents (Elt F)),
  StableHlo.unary main_call7_v8 main_call7_v9 ((broadcastInDim S128x100000x1 ![0, 1, 2] bcast_S1x1x1_S128x100000x1_0_1_2) : (⟨S1x1x1, .i32⟩ : BufTy).Contents (Elt F) → (⟨S128x100000x1, .i32⟩ : BufTy).Contents (Elt F)),
  StableHlo.binary main_call7_v5 main_call7_v9 main_call7_v10 ((cmpi .sle) : (⟨S128x100000x1, .i32⟩ : BufTy).Contents (Elt F) → (⟨S128x100000x1, .i32⟩ : BufTy).Contents (Elt F) → (⟨S128x100000x1, .i1⟩ : BufTy).Contents (Elt F)),
  StableHlo.binary main_call7_v7 main_call7_v10 main_call7_v11 (andi : (⟨S128x100000x1, .i1⟩ : BufTy).Contents (Elt F) → (⟨S128x100000x1, .i1⟩ : BufTy).Contents (Elt F) → (⟨S128x100000x1, .i1⟩ : BufTy).Contents (Elt F)),
  StableHlo.nullary main_call7_c_3 ((constantI S_ 1 1#1) : (⟨S_, .i1⟩ : BufTy).Contents (Elt F)),
  StableHlo.TRef.binary (.of main_call7_v11 : StableHlo.TRef sig ⟨S128x100000x1, .i1⟩) (.of main_call7_c_3 : StableHlo.TRef sig ⟨S_, .i1⟩) (.of main_call7_v12 : StableHlo.TRef sig ⟨S128x100000, .i1⟩) ((fun x v => Host.reduce IntOp.andi x v reducesTo_S128x100000x1_S128x100000_d2 h_S_) : (⟨S128x100000x1, .i1⟩ : BufTy).Contents (Elt F) → (⟨S_, .i1⟩ : BufTy).Contents (Elt F) → (⟨S128x100000, .i1⟩ : BufTy).Contents (Elt F)),
  StableHlo.binary main_v42 main_call7_v5 main_call7_v13 ((fun x i => Host.gather gather_S128x100000_S128x100000x1_S128x100000_n_1_0_0_1_2_11 x i) : (⟨S128x100000, .f32⟩ : BufTy).Contents (Elt F) → (⟨S128x100000x1, .i32⟩ : BufTy).Contents (Elt F) → (⟨S128x100000, .f32⟩ : BufTy).Contents (Elt F)),
  StableHlo.nullary main_call7_cst ((constant S_ .f32 0x7FC00000#32) : (⟨S_, .f32⟩ : BufTy).Contents (Elt F)),
  StableHlo.unary main_call7_cst main_call7_v14 ((broadcastInDim S128x100000 ![] bcast_S_S128x100000) : (⟨S_, .f32⟩ : BufTy).Contents (Elt F) → (⟨S128x100000, .f32⟩ : BufTy).Contents (Elt F)),
  StableHlo.ternary main_call7_v12 main_call7_v13 main_call7_v14 main_v44 (select : (⟨S128x100000, .i1⟩ : BufTy).Contents (Elt F) → (⟨S128x100000, .f32⟩ : BufTy).Contents (Elt F) → (⟨S128x100000, .f32⟩ : BufTy).Contents (Elt F) → (⟨S128x100000, .f32⟩ : BufTy).Contents (Elt F))]

/-- The two words of the random key (the first of the two halves of the program ends here). -/
def seedsAOps : List (HloOp τ sig (Elt F)) := [
  StableHlo.nullary main_c_5 (constantI S_ 32 42#32),
  StableHlo.nullary main_c_6 (constantI S_ 32 32#32),
  StableHlo.binary main_c_5 main_c_6 main_v45 (Host.shrui : (⟨S_, .i32⟩ : BufTy).Contents (Elt F) → (⟨S_, .i32⟩ : BufTy).Contents (Elt F) → (⟨S_, .i32⟩ : BufTy).Contents (Elt F)),
  StableHlo.unary main_v45 main_v46 (id : (⟨S_, .i32⟩ : BufTy).Contents (Elt F) → (⟨S_, .i32⟩ : BufTy).Contents (Elt F)),
  StableHlo.unary main_v46 main_v47 (broadcastInDim S1 ![] bcast_S_S1 : (⟨S_, .i32⟩ : BufTy).Contents (Elt F) → (⟨S1, .i32⟩ : BufTy).Contents (Elt F)),
  StableHlo.nullary main_c_7 (constantI S_ 32 4294967295#32),
  StableHlo.binary main_c_5 main_c_7 main_v48 (andi : (⟨S_, .i32⟩ : BufTy).Contents (Elt F) → (⟨S_, .i32⟩ : BufTy).Contents (Elt F) → (⟨S_, .i32⟩ : BufTy).Contents (Elt F)),
  StableHlo.unary main_v48 main_v49 (id : (⟨S_, .i32⟩ : BufTy).Contents (Elt F) → (⟨S_, .i32⟩ : BufTy).Contents (Elt F))]

/-- The log of the probabilities and what the generator of random words reads. -/
def seedsBOps : List (HloOp τ sig (Elt F)) := [
  StableHlo.unary main_v49 main_v50 (broadcastInDim S1 ![] bcast_S_S1 : (⟨S_, .i32⟩ : BufTy).Contents (Elt F) → (⟨S1, .i32⟩ : BufTy).Contents (Elt F)),
  StableHlo.binary main_v47 main_v50 main_v51 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.nullary main_cst_8 (constant S_ .f32 0x0DA24260#32),
  StableHlo.unary main_cst_8 main_v52 (broadcastInDim S128x100000 ![] bcast_S_S128x100000 : (⟨S_, .f32⟩ : BufTy).Contents (Elt F) → (⟨S128x100000, .f32⟩ : BufTy).Contents (Elt F)),
  StableHlo.binary main_v44 main_v52 main_v53 (addf : (⟨S128x100000, .f32⟩ : BufTy).Contents (Elt F) → (⟨S128x100000, .f32⟩ : BufTy).Contents (Elt F) → (⟨S128x100000, .f32⟩ : BufTy).Contents (Elt F)),
  StableHlo.unary main_v53 main_v54 (Host.log : (⟨S128x100000, .f32⟩ : BufTy).Contents (Elt F) → (⟨S128x100000, .f32⟩ : BufTy).Contents (Elt F)),
  StableHlo.nullary main_call8_cst ((constant S_ .f32 0x3F800000#32) : (⟨S_, .f32⟩ : BufTy).Contents (Elt F)),
  StableHlo.nullary main_call8_cst_0 ((constant S_ .f32 0x00800000#32) : (⟨S_, .f32⟩ : BufTy).Contents (Elt F)),
  StableHlo.unary main_call8_cst main_call8_call0_v0 (id : (⟨S_, .f32⟩ : BufTy).Contents (Elt F) → (⟨S_, .f32⟩ : BufTy).Contents (Elt F)),
  StableHlo.unary main_call8_cst_0 main_call8_call0_v1 ((broadcastInDim S1x1 ![] bcast_S_S1x1) : (⟨S_, .f32⟩ : BufTy).Contents (Elt F) → (⟨S1x1, .f32⟩ : BufTy).Contents (Elt F)),
  StableHlo.unary main_call8_call0_v0 main_call8_call0_v2 ((broadcastInDim S1x1 ![] bcast_S_S1x1) : (⟨S_, .f32⟩ : BufTy).Contents (Elt F) → (⟨S1x1, .f32⟩ : BufTy).Contents (Elt F)),
  StableHlo.unary main_v51 main_call8_call0_v3 ((extractStridedSlice S1 ![0] · slices_S2_S1_0) : (⟨S2, .i32⟩ : BufTy).Contents (Elt F) → (⟨S1, .i32⟩ : BufTy).Contents (Elt F)),
  StableHlo.reshape main_call8_call0_v3 main_call8_call0_v4 (rfl : (.i32 : EltTy) = .i32) shapeCasts_S1_S_,
  StableHlo.unary main_v51 main_call8_call0_v5 ((extractStridedSlice S1 ![1] · slices_S2_S1_1) : (⟨S2, .i32⟩ : BufTy).Contents (Elt F) → (⟨S1, .i32⟩ : BufTy).Contents (Elt F)),
  StableHlo.reshape main_call8_call0_v5 main_call8_call0_v6 (rfl : (.i32 : EltTy) = .i32) shapeCasts_S1_S_,
  StableHlo.nullary main_call8_call0_v7 ((iotaInDim S128x100000 64 0) : (⟨S128x100000, .i64⟩ : BufTy).Contents (Elt F)),
  StableHlo.nullary main_call8_call0_v8 ((iotaInDim S128x100000 64 1) : (⟨S128x100000, .i64⟩ : BufTy).Contents (Elt F)),
  StableHlo.nullary main_call8_call0_c ((constantI S_ 64 100000#64) : (⟨S_, .i64⟩ : BufTy).Contents (Elt F)),
  StableHlo.unary main_call8_call0_c main_call8_call0_v9 ((broadcastInDim S128x100000 ![] bcast_S_S128x100000) : (⟨S_, .i64⟩ : BufTy).Contents (Elt F) → (⟨S128x100000, .i64⟩ : BufTy).Contents (Elt F)),
  StableHlo.binary main_call8_call0_v9 main_call8_call0_v7 main_call8_call0_v10 (muli : (⟨S128x100000, .i64⟩ : BufTy).Contents (Elt F) → (⟨S128x100000, .i64⟩ : BufTy).Contents (Elt F) → (⟨S128x100000, .i64⟩ : BufTy).Contents (Elt F)),
  StableHlo.nullary main_call8_call0_c_0 ((constantI S_ 64 1#64) : (⟨S_, .i64⟩ : BufTy).Contents (Elt F)),
  StableHlo.unary main_call8_call0_c_0 main_call8_call0_v11 ((broadcastInDim S128x100000 ![] bcast_S_S128x100000) : (⟨S_, .i64⟩ : BufTy).Contents (Elt F) → (⟨S128x100000, .i64⟩ : BufTy).Contents (Elt F)),
  StableHlo.binary main_call8_call0_v11 main_call8_call0_v8 main_call8_call0_v12 (muli : (⟨S128x100000, .i64⟩ : BufTy).Contents (Elt F) → (⟨S128x100000, .i64⟩ : BufTy).Contents (Elt F) → (⟨S128x100000, .i64⟩ : BufTy).Contents (Elt F)),
  StableHlo.binary main_call8_call0_v10 main_call8_call0_v12 main_call8_call0_v13 (addi : (⟨S128x100000, .i64⟩ : BufTy).Contents (Elt F) → (⟨S128x100000, .i64⟩ : BufTy).Contents (Elt F) → (⟨S128x100000, .i64⟩ : BufTy).Contents (Elt F)),
  StableHlo.nullary main_call8_call0_c_1 ((constantI S_ 64 32#64) : (⟨S_, .i64⟩ : BufTy).Contents (Elt F)),
  StableHlo.unary main_call8_call0_c_1 main_call8_call0_v14 ((broadcastInDim S128x100000 ![] bcast_S_S128x100000) : (⟨S_, .i64⟩ : BufTy).Contents (Elt F) → (⟨S128x100000, .i64⟩ : BufTy).Contents (Elt F)),
  StableHlo.binary main_call8_call0_v13 main_call8_call0_v14 main_call8_call0_v15 (Host.shrui : (⟨S128x100000, .i64⟩ : BufTy).Contents (Elt F) → (⟨S128x100000, .i64⟩ : BufTy).Contents (Elt F) → (⟨S128x100000, .i64⟩ : BufTy).Contents (Elt F)),
  StableHlo.unary main_call8_call0_v13 main_call8_call0_v16 ((trunci 32 · natLt_32_64) : (⟨S128x100000, .i64⟩ : BufTy).Contents (Elt F) → (⟨S128x100000, .i32⟩ : BufTy).Contents (Elt F)),
  StableHlo.unary main_call8_call0_v15 main_call8_call0_v17 ((trunci 32 · natLt_32_64) : (⟨S128x100000, .i64⟩ : BufTy).Contents (Elt F) → (⟨S128x100000, .i32⟩ : BufTy).Contents (Elt F))]

/-- The generator of random words: its first operations. -/
def words0Ops : List (HloOp τ sig (Elt F)) := [
  StableHlo.binary main_call8_call0_v4 main_call8_call0_v6 main_call8_call0_call0_v0 (xori : (⟨S_, .i32⟩ : BufTy).Contents (Elt F) → (⟨S_, .i32⟩ : BufTy).Contents (Elt F) → (⟨S_, .i32⟩ : BufTy).Contents (Elt F)),
  StableHlo.nullary main_call8_call0_call0_c ((constantI S_ 32 466688986#32) : (⟨S_, .i32⟩ : BufTy).Contents (Elt F)),
  StableHlo.binary main_call8_call0_call0_v0 main_call8_call0_call0_c main_call8_call0_call0_v1 (xori : (⟨S_, .i32⟩ : BufTy).Contents (Elt F) → (⟨S_, .i32⟩ : BufTy).Contents (Elt F) → (⟨S_, .i32⟩ : BufTy).Contents (Elt F)),
  StableHlo.unary main_call8_call0_v4 main_call8_call0_call0_v2 ((broadcastInDim S128x100000 ![] bcast_S_S128x100000) : (⟨S_, .i32⟩ : BufTy).Contents (Elt F) → (⟨S128x100000, .i32⟩ : BufTy).Contents (Elt F)),
  StableHlo.binary main_call8_call0_v17 main_call8_call0_call0_v2 main_call8_call0_call0_v3 (addi : (⟨S128x100000, .i32⟩ : BufTy).Contents (Elt F) → (⟨S128x100000, .i32⟩ : BufTy).Contents (Elt F) → (⟨S128x100000, .i32⟩ : BufTy).Contents (Elt F)),
  StableHlo.unary main_call8_call0_v6 main_call8_call0_call0_v4 ((broadcastInDim S128x100000 ![] bcast_S_S128x100000) : (⟨S_, .i32⟩ : BufTy).Contents (Elt F) → (⟨S128x100000, .i32⟩ : BufTy).Contents (Elt F)),
  StableHlo.binary main_call8_call0_v16 main_call8_call0_call0_v4 main_call8_call0_call0_v5 (addi : (⟨S128x100000, .i32⟩ : BufTy).Contents (Elt F) → (⟨S128x100000, .i32⟩ : BufTy).Contents (Elt F) → (⟨S128x100000, .i32⟩ : BufTy).Contents (Elt F)),
  StableHlo.binary main_call8_call0_call0_v3 main_call8_call0_call0_v5 main_call8_call0_call0_v6 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_0 ((constantI S_ 32 13#32) : (⟨S_, .i32⟩ : BufTy).Contents (Elt F)),
  StableHlo.unary main_call8_call0_call0_c_0 main_call8_call0_call0_v7 ((broadcastInDim S128x100000 ![] bcast_S_S128x100000) : (⟨S_, .i32⟩ : BufTy).Contents (Elt F) → (⟨S128x100000, .i32⟩ : BufTy).Contents (Elt F)),
  StableHlo.binary main_call8_call0_call0_v5 main_call8_call0_call0_v7 main_call8_call0_call0_v8 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_1 ((constantI S_ 32 19#32) : (⟨S_, .i32⟩ : BufTy).Contents (Elt F)),
  StableHlo.unary main_call8_call0_call0_c_1 main_call8_call0_call0_v9 ((broadcastInDim S128x100000 ![] bcast_S_S128x100000) : (⟨S_, .i32⟩ : BufTy).Contents (Elt F) → (⟨S128x100000, .i32⟩ : BufTy).Contents (Elt F)),
  StableHlo.binary main_call8_call0_call0_v5 main_call8_call0_call0_v9 main_call8_call0_call0_v10 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v8 main_call8_call0_call0_v10 main_call8_call0_call0_v11 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v6 main_call8_call0_call0_v11 main_call8_call0_call0_v12 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v6 main_call8_call0_call0_v12 main_call8_call0_call0_v13 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_2 ((constantI S_ 32 15#32) : (⟨S_, .i32⟩ : BufTy).Contents (Elt F)),
  StableHlo.unary main_call8_call0_call0_c_2 main_call8_call0_call0_v14 ((broadcastInDim S128x100000 ![] bcast_S_S128x100000) : (⟨S_, .i32⟩ : BufTy).Contents (Elt F) → (⟨S128x100000, .i32⟩ : BufTy).Contents (Elt F)),
  StableHlo.binary main_call8_call0_call0_v12 main_call8_call0_call0_v14 main_call8_call0_call0_v15 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_3 ((constantI S_ 32 17#32) : (⟨S_, .i32⟩ : BufTy).Contents (Elt F)),
  StableHlo.unary main_call8_call0_call0_c_3 main_call8_call0_call0_v16 ((broadcastInDim S128x100000 ![] bcast_S_S128x100000) : (⟨S_, .i32⟩ : BufTy).Contents (Elt F) → (⟨S128x100000, .i32⟩ : BufTy).Contents (Elt F)),
  StableHlo.binary main_call8_call0_call0_v12 main_call8_call0_call0_v16 main_call8_call0_call0_v17 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v15 main_call8_call0_call0_v17 main_call8_call0_call0_v18 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v13 main_call8_call0_call0_v18 main_call8_call0_call0_v19 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v13 main_call8_call0_call0_v19 main_call8_call0_call0_v20 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_4 ((constantI S_ 32 26#32) : (⟨S_, .i32⟩ : BufTy).Contents (Elt F)),
  StableHlo.unary main_call8_call0_call0_c_4 main_call8_call0_call0_v21 ((broadcastInDim S128x100000 ![] bcast_S_S128x100000) : (⟨S_, .i32⟩ : BufTy).Contents (Elt F) → (⟨S128x100000, .i32⟩ : BufTy).Contents (Elt F)),
  StableHlo.binary main_call8_call0_call0_v19 main_call8_call0_call0_v21 main_call8_call0_call0_v22 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_5 ((constantI S_ 32 6#32) : (⟨S_, .i32⟩ : BufTy).Contents (Elt F)),
  StableHlo.unary main_call8_call0_call0_c_5 main_call8_call0_call0_v23 ((broadcastInDim S128x100000 ![] bcast_S_S128x100000) : (⟨S_, .i32⟩ : BufTy).Contents (Elt F) → (⟨S128x100000, .i32⟩ : BufTy).Contents (Elt F)),
  StableHlo.binary main_call8_call0_call0_v19 main_call8_call0_call0_v23 main_call8_call0_call0_v24 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v22 main_call8_call0_call0_v24 main_call8_call0_call0_v25 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v20 main_call8_call0_call0_v25 main_call8_call0_call0_v26 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v20 main_call8_call0_call0_v26 main_call8_call0_call0_v27 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_6 ((constantI S_ 32 6#32) : (⟨S_, .i32⟩ : BufTy).Contents (Elt F)),
  StableHlo.unary main_call8_call0_call0_c_6 main_call8_call0_call0_v28 ((broadcastInDim S128x100000 ![] bcast_S_S128x100000) : (⟨S_, .i32⟩ : BufTy).Contents (Elt F) → (⟨S128x100000, .i32⟩ : BufTy).Contents (Elt F)),
  StableHlo.binary main_call8_call0_call0_v26 main_call8_call0_call0_v28 main_call8_call0_call0_v29 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_7 ((constantI S_ 32 26#32) : (⟨S_, .i32⟩ : BufTy).Contents (Elt F)),
  StableHlo.unary main_call8_call0_call0_c_7 main_call8_call0_call0_v30 ((broadcastInDim S128x100000 ![] bcast_S_S128x100000) : (⟨S_, .i32⟩ : BufTy).Contents (Elt F) → (⟨S128x100000, .i32⟩ : BufTy).Contents (Elt F)),
  StableHlo.binary main_call8_call0_call0_v26 main_call8_call0_call0_v30 main_call8_call0_call0_v31 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v29 main_call8_call0_call0_v31 main_call8_call0_call0_v32 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v27 main_call8_call0_call0_v32 main_call8_call0_call0_v33 (xori : (⟨S128x100000, .i32⟩ : BufTy).Contents (Elt F) → (⟨S128x100000, .i32⟩ : BufTy).Contents (Elt F) → (⟨S128x100000, .i32⟩ : BufTy).Contents (Elt F)),
  StableHlo.unary main_call8_call0_v6 main_call8_call0_call0_v34 ((broadcastInDim S128x100000 ![] bcast_S_S128x100000) : (⟨S_, .i32⟩ : BufTy).Contents (Elt F) → (⟨S128x100000, .i32⟩ : BufTy).Contents (Elt F)),
  StableHlo.binary main_call8_call0_call0_v27 main_call8_call0_call0_v34 main_call8_call0_call0_v35 (addi : (⟨S128x100000, .i32⟩ : BufTy).Contents (Elt F) → (⟨S128x100000, .i32⟩ : BufTy).Contents (Elt F) → (⟨S128x100000, .i32⟩ : BufTy).Contents (Elt F)),
  StableHlo.unary main_call8_call0_call0_v1 main_call8_call0_call0_v36 ((broadcastInDim S128x100000 ![] bcast_S_S128x100000) : (⟨S_, .i32⟩ : BufTy).Contents (Elt F) → (⟨S128x100000, .i32⟩ : BufTy).Contents (Elt F)),
  StableHlo.binary main_call8_call0_call0_v33 main_call8_call0_call0_v36 main_call8_call0_call0_v37 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_8 ((constantI S_ 32 1#32) : (⟨S_, .i32⟩ : BufTy).Contents (Elt F)),
  StableHlo.unary main_call8_call0_call0_c_8 main_call8_call0_call0_v38 ((broadcastInDim S128x100000 ![] bcast_S_S128x100000) : (⟨S_, .i32⟩ : BufTy).Contents (Elt F) → (⟨S128x100000, .i32⟩ : BufTy).Contents (Elt F)),
  StableHlo.binary main_call8_call0_call0_v37 main_call8_call0_call0_v38 main_call8_call0_call0_v39 (addi : (⟨S128x100000, .i32⟩ : BufTy).Contents (Elt F) → (⟨S128x100000, .i32⟩ : BufTy).Contents (Elt F) → (⟨S128x100000, .i32⟩ : BufTy).Contents (Elt F)),
  StableHlo.binary main_call8_call0_call0_v35 main_call8_call0_call0_v39 main_call8_call0_call0_v40 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_9 ((constantI S_ 32 17#32) : (⟨S_, .i32⟩ : BufTy).Contents (Elt F)),
  StableHlo.unary main_call8_call0_call0_c_9 main_call8_call0_call0_v41 ((broadcastInDim S128x100000 ![] bcast_S_S128x100000) : (⟨S_, .i32⟩ : BufTy).Contents (Elt F) → (⟨S128x100000, .i32⟩ : BufTy).Contents (Elt F)),
  StableHlo.binary main_call8_call0_call0_v39 main_call8_call0_call0_v41 main_call8_call0_call0_v42 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_10 ((constantI S_ 32 15#32) : (⟨S_, .i32⟩ : BufTy).Contents (Elt F)),
  StableHlo.unary main_call8_call0_call0_c_10 main_call8_call0_call0_v43 ((broadcastInDim S128x100000 ![] bcast_S_S128x100000) : (⟨S_, .i32⟩ : BufTy).Contents (Elt F) → (⟨S128x100000, .i32⟩ : BufTy).Contents (Elt F)),
  StableHlo.binary main_call8_call0_call0_v39 main_call8_call0_call0_v43 main_call8_call0_call0_v44 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v42 main_call8_call0_call0_v44 main_call8_call0_call0_v45 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v40 main_call8_call0_call0_v45 main_call8_call0_call0_v46 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v40 main_call8_call0_call0_v46 main_call8_call0_call0_v47 (addi : (⟨S128x100000, .i32⟩ : BufTy).Contents (Elt F) → (⟨S128x100000, .i32⟩ : BufTy).Contents (Elt F) → (⟨S128x100000, .i32⟩ : BufTy).Contents (Elt F))]

/-- The generator of random words, continued. -/
def words1Ops : List (HloOp τ sig (Elt F)) := [
  StableHlo.nullary main_call8_call0_call0_c_11 ((constantI S_ 32 29#32) : (⟨S_, .i32⟩ : BufTy).Contents (Elt F)),
  StableHlo.unary main_call8_call0_call0_c_11 main_call8_call0_call0_v48 ((broadcastInDim S128x100000 ![] bcast_S_S128x100000) : (⟨S_, .i32⟩ : BufTy).Contents (Elt F) → (⟨S128x100000, .i32⟩ : BufTy).Contents (Elt F)),
  StableHlo.binary main_call8_call0_call0_v46 main_call8_call0_call0_v48 main_call8_call0_call0_v49 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_12 ((constantI S_ 32 3#32) : (⟨S_, .i32⟩ : BufTy).Contents (Elt F)),
  StableHlo.unary main_call8_call0_call0_c_12 main_call8_call0_call0_v50 ((broadcastInDim S128x100000 ![] bcast_S_S128x100000) : (⟨S_, .i32⟩ : BufTy).Contents (Elt F) → (⟨S128x100000, .i32⟩ : BufTy).Contents (Elt F)),
  StableHlo.binary main_call8_call0_call0_v46 main_call8_call0_call0_v50 main_call8_call0_call0_v51 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v49 main_call8_call0_call0_v51 main_call8_call0_call0_v52 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v47 main_call8_call0_call0_v52 main_call8_call0_call0_v53 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v47 main_call8_call0_call0_v53 main_call8_call0_call0_v54 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_13 ((constantI S_ 32 16#32) : (⟨S_, .i32⟩ : BufTy).Contents (Elt F)),
  StableHlo.unary main_call8_call0_call0_c_13 main_call8_call0_call0_v55 ((broadcastInDim S128x100000 ![] bcast_S_S128x100000) : (⟨S_, .i32⟩ : BufTy).Contents (Elt F) → (⟨S128x100000, .i32⟩ : BufTy).Contents (Elt F)),
  StableHlo.binary main_call8_call0_call0_v53 main_call8_call0_call0_v55 main_call8_call0_call0_v56 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_14 ((constantI S_ 32 16#32) : (⟨S_, .i32⟩ : BufTy).Contents (Elt F)),
  StableHlo.unary main_call8_call0_call0_c_14 main_call8_call0_call0_v57 ((broadcastInDim S128x100000 ![] bcast_S_S128x100000) : (⟨S_, .i32⟩ : BufTy).Contents (Elt F) → (⟨S128x100000, .i32⟩ : BufTy).Contents (Elt F)),
  StableHlo.binary main_call8_call0_call0_v53 main_call8_call0_call0_v57 main_call8_call0_call0_v58 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v56 main_call8_call0_call0_v58 main_call8_call0_call0_v59 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v54 main_call8_call0_call0_v59 main_call8_call0_call0_v60 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v54 main_call8_call0_call0_v60 main_call8_call0_call0_v61 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_15 ((constantI S_ 32 24#32) : (⟨S_, .i32⟩ : BufTy).Contents (Elt F)),
  StableHlo.unary main_call8_call0_call0_c_15 main_call8_call0_call0_v62 ((broadcastInDim S128x100000 ![] bcast_S_S128x100000) : (⟨S_, .i32⟩ : BufTy).Contents (Elt F) → (⟨S128x100000, .i32⟩ : BufTy).Contents (Elt F)),
  StableHlo.binary main_call8_call0_call0_v60 main_call8_call0_call0_v62 main_call8_call0_call0_v63 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_16 ((constantI S_ 32 8#32) : (⟨S_, .i32⟩ : BufTy).Contents (Elt F)),
  StableHlo.unary main_call8_call0_call0_c_16 main_call8_call0_call0_v64 ((broadcastInDim S128x100000 ![] bcast_S_S128x100000) : (⟨S_, .i32⟩ : BufTy).Contents (Elt F) → (⟨S128x100000, .i32⟩ : BufTy).Contents (Elt F)),
  StableHlo.binary main_call8_call0_call0_v60 main_call8_call0_call0_v64 main_call8_call0_call0_v65 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v63 main_call8_call0_call0_v65 main_call8_call0_call0_v66 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v61 main_call8_call0_call0_v66 main_call8_call0_call0_v67 (xori : (⟨S128x100000, .i32⟩ : BufTy).Contents (Elt F) → (⟨S128x100000, .i32⟩ : BufTy).Contents (Elt F) → (⟨S128x100000, .i32⟩ : BufTy).Contents (Elt F)),
  StableHlo.unary main_call8_call0_call0_v1 main_call8_call0_call0_v68 ((broadcastInDim S128x100000 ![] bcast_S_S128x100000) : (⟨S_, .i32⟩ : BufTy).Contents (Elt F) → (⟨S128x100000, .i32⟩ : BufTy).Contents (Elt F)),
  StableHlo.binary main_call8_call0_call0_v61 main_call8_call0_call0_v68 main_call8_call0_call0_v69 (addi : (⟨S128x100000, .i32⟩ : BufTy).Contents (Elt F) → (⟨S128x100000, .i32⟩ : BufTy).Contents (Elt F) → (⟨S128x100000, .i32⟩ : BufTy).Contents (Elt F)),
  StableHlo.unary main_call8_call0_v4 main_call8_call0_call0_v70 ((broadcastInDim S128x100000 ![] bcast_S_S128x100000) : (⟨S_, .i32⟩ : BufTy).Contents (Elt F) → (⟨S128x100000, .i32⟩ : BufTy).Contents (Elt F)),
  StableHlo.binary main_call8_call0_call0_v67 main_call8_call0_call0_v70 main_call8_call0_call0_v71 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_17 ((constantI S_ 32 2#32) : (⟨S_, .i32⟩ : BufTy).Contents (Elt F)),
  StableHlo.unary main_call8_call0_call0_c_17 main_call8_call0_call0_v72 ((broadcastInDim S128x100000 ![] bcast_S_S128x100000) : (⟨S_, .i32⟩ : BufTy).Contents (Elt F) → (⟨S128x100000, .i32⟩ : BufTy).Contents (Elt F)),
  StableHlo.binary main_call8_call0_call0_v71 main_call8_call0_call0_v72 main_call8_call0_call0_v73 (addi : (⟨S128x100000, .i32⟩ : BufTy).Contents (Elt F) → (⟨S128x100000, .i32⟩ : BufTy).Contents (Elt F) → (⟨S128x100000, .i32⟩ : BufTy).Contents (Elt F)),
  StableHlo.binary main_call8_call0_call0_v69 main_call8_call0_call0_v73 main_call8_call0_call0_v74 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_18 ((constantI S_ 32 13#32) : (⟨S_, .i32⟩ : BufTy).Contents (Elt F)),
  StableHlo.unary main_call8_call0_call0_c_18 main_call8_call0_call0_v75 ((broadcastInDim S128x100000 ![] bcast_S_S128x100000) : (⟨S_, .i32⟩ : BufTy).Contents (Elt F) → (⟨S128x100000, .i32⟩ : BufTy).Contents (Elt F)),
  StableHlo.binary main_call8_call0_call0_v73 main_call8_call0_call0_v75 main_call8_call0_call0_v76 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_19 ((constantI S_ 32 19#32) : (⟨S_, .i32⟩ : BufTy).Contents (Elt F)),
  StableHlo.unary main_call8_call0_call0_c_19 main_call8_call0_call0_v77 ((broadcastInDim S128x100000 ![] bcast_S_S128x100000) : (⟨S_, .i32⟩ : BufTy).Contents (Elt F) → (⟨S128x100000, .i32⟩ : BufTy).Contents (Elt F)),
  StableHlo.binary main_call8_call0_call0_v73 main_call8_call0_call0_v77 main_call8_call0_call0_v78 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v76 main_call8_call0_call0_v78 main_call8_call0_call0_v79 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v74 main_call8_call0_call0_v79 main_call8_call0_call0_v80 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v74 main_call8_call0_call0_v80 main_call8_call0_call0_v81 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_20 ((constantI S_ 32 15#32) : (⟨S_, .i32⟩ : BufTy).Contents (Elt F)),
  StableHlo.unary main_call8_call0_call0_c_20 main_call8_call0_call0_v82 ((broadcastInDim S128x100000 ![] bcast_S_S128x100000) : (⟨S_, .i32⟩ : BufTy).Contents (Elt F) → (⟨S128x100000, .i32⟩ : BufTy).Contents (Elt F)),
  StableHlo.binary main_call8_call0_call0_v80 main_call8_call0_call0_v82 main_call8_call0_call0_v83 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_21 ((constantI S_ 32 17#32) : (⟨S_, .i32⟩ : BufTy).Contents (Elt F)),
  StableHlo.unary main_call8_call0_call0_c_21 main_call8_call0_call0_v84 ((broadcastInDim S128x100000 ![] bcast_S_S128x100000) : (⟨S_, .i32⟩ : BufTy).Contents (Elt F) → (⟨S128x100000, .i32⟩ : BufTy).Contents (Elt F)),
  StableHlo.binary main_call8_call0_call0_v80 main_call8_call0_call0_v84 main_call8_call0_call0_v85 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v83 main_call8_call0_call0_v85 main_call8_call0_call0_v86 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v81 main_call8_call0_call0_v86 main_call8_call0_call0_v87 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v81 main_call8_call0_call0_v87 main_call8_call0_call0_v88 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_22 ((constantI S_ 32 26#32) : (⟨S_, .i32⟩ : BufTy).Contents (Elt F)),
  StableHlo.unary main_call8_call0_call0_c_22 main_call8_call0_call0_v89 ((broadcastInDim S128x100000 ![] bcast_S_S128x100000) : (⟨S_, .i32⟩ : BufTy).Contents (Elt F) → (⟨S128x100000, .i32⟩ : BufTy).Contents (Elt F)),
  StableHlo.binary main_call8_call0_call0_v87 main_call8_call0_call0_v89 main_call8_call0_call0_v90 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_23 ((constantI S_ 32 6#32) : (⟨S_, .i32⟩ : BufTy).Contents (Elt F)),
  StableHlo.unary main_call8_call0_call0_c_23 main_call8_call0_call0_v91 ((broadcastInDim S128x100000 ![] bcast_S_S128x100000) : (⟨S_, .i32⟩ : BufTy).Contents (Elt F) → (⟨S128x100000, .i32⟩ : BufTy).Contents (Elt F)),
  StableHlo.binary main_call8_call0_call0_v87 main_call8_call0_call0_v91 main_call8_call0_call0_v92 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v90 main_call8_call0_call0_v92 main_call8_call0_call0_v93 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v88 main_call8_call0_call0_v93 main_call8_call0_call0_v94 (xori : (⟨S128x100000, .i32⟩ : BufTy).Contents (Elt F) → (⟨S128x100000, .i32⟩ : BufTy).Contents (Elt F) → (⟨S128x100000, .i32⟩ : BufTy).Contents (Elt F))]

/-- The generator of random words, continued. -/
def words2Ops : List (HloOp τ sig (Elt F)) := [
  StableHlo.binary main_call8_call0_call0_v88 main_call8_call0_call0_v94 main_call8_call0_call0_v95 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_24 ((constantI S_ 32 6#32) : (⟨S_, .i32⟩ : BufTy).Contents (Elt F)),
  StableHlo.unary main_call8_call0_call0_c_24 main_call8_call0_call0_v96 ((broadcastInDim S128x100000 ![] bcast_S_S128x100000) : (⟨S_, .i32⟩ : BufTy).Contents (Elt F) → (⟨S128x100000, .i32⟩ : BufTy).Contents (Elt F)),
  StableHlo.binary main_call8_call0_call0_v94 main_call8_call0_call0_v96 main_call8_call0_call0_v97 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_25 ((constantI S_ 32 26#32) : (⟨S_, .i32⟩ : BufTy).Contents (Elt F)),
  StableHlo.unary main_call8_call0_call0_c_25 main_call8_call0_call0_v98 ((broadcastInDim S128x100000 ![] bcast_S_S128x100000) : (⟨S_, .i32⟩ : BufTy).Contents (Elt F) → (⟨S128x100000, .i32⟩ : BufTy).Contents (Elt F)),
  StableHlo.binary main_call8_call0_call0_v94 main_call8_call0_call0_v98 main_call8_call0_call0_v99 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v97 main_call8_call0_call0_v99 main_call8_call0_call0_v100 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v95 main_call8_call0_call0_v100 main_call8_call0_call0_v101 (xori : (⟨S128x100000, .i32⟩ : BufTy).Contents (Elt F) → (⟨S128x100000, .i32⟩ : BufTy).Contents (Elt F) → (⟨S128x100000, .i32⟩ : BufTy).Contents (Elt F)),
  StableHlo.unary main_call8_call0_v4 main_call8_call0_call0_v102 ((broadcastInDim S128x100000 ![] bcast_S_S128x100000) : (⟨S_, .i32⟩ : BufTy).Contents (Elt F) → (⟨S128x100000, .i32⟩ : BufTy).Contents (Elt F)),
  StableHlo.binary main_call8_call0_call0_v95 main_call8_call0_call0_v102 main_call8_call0_call0_v103 (addi : (⟨S128x100000, .i32⟩ : BufTy).Contents (Elt F) → (⟨S128x100000, .i32⟩ : BufTy).Contents (Elt F) → (⟨S128x100000, .i32⟩ : BufTy).Contents (Elt F)),
  StableHlo.unary main_call8_call0_v6 main_call8_call0_call0_v104 ((broadcastInDim S128x100000 ![] bcast_S_S128x100000) : (⟨S_, .i32⟩ : BufTy).Contents (Elt F) → (⟨S128x100000, .i32⟩ : BufTy).Contents (Elt F)),
  StableHlo.binary main_call8_call0_call0_v101 main_call8_call0_call0_v104 main_call8_call0_call0_v105 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_26 ((constantI S_ 32 3#32) : (⟨S_, .i32⟩ : BufTy).Contents (Elt F)),
  StableHlo.unary main_call8_call0_call0_c_26 main_call8_call0_call0_v106 ((broadcastInDim S128x100000 ![] bcast_S_S128x100000) : (⟨S_, .i32⟩ : BufTy).Contents (Elt F) → (⟨S128x100000, .i32⟩ : BufTy).Contents (Elt F)),
  StableHlo.binary main_call8_call0_call0_v105 main_call8_call0_call0_v106 main_call8_call0_call0_v107 (addi : (⟨S128x100000, .i32⟩ : BufTy).Contents (Elt F) → (⟨S128x100000, .i32⟩ : BufTy).Contents (Elt F) → (⟨S128x100000, .i32⟩ : BufTy).Contents (Elt F)),
  StableHlo.binary main_call8_call0_call0_v103 main_call8_call0_call0_v107 main_call8_call0_call0_v108 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_27 ((constantI S_ 32 17#32) : (⟨S_, .i32⟩ : BufTy).Contents (Elt F)),
  StableHlo.unary main_call8_call0_call0_c_27 main_call8_call0_call0_v109 ((broadcastInDim S128x100000 ![] bcast_S_S128x100000) : (⟨S_, .i32⟩ : BufTy).Contents (Elt F) → (⟨S128x100000, .i32⟩ : BufTy).Contents (Elt F)),
  StableHlo.binary main_call8_call0_call0_v107 main_call8_call0_call0_v109 main_call8_call0_call0_v110 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_28 ((constantI S_ 32 15#32) : (⟨S_, .i32⟩ : BufTy).Contents (Elt F)),
  StableHlo.unary main_call8_call0_call0_c_28 main_call8_call0_call0_v111 ((broadcastInDim S128x100000 ![] bcast_S_S128x100000) : (⟨S_, .i32⟩ : BufTy).Contents (Elt F) → (⟨S128x100000, .i32⟩ : BufTy).Contents (Elt F)),
  StableHlo.binary main_call8_call0_call0_v107 main_call8_call0_call0_v111 main_call8_call0_call0_v112 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v110 main_call8_call0_call0_v112 main_call8_call0_call0_v113 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v108 main_call8_call0_call0_v113 main_call8_call0_call0_v114 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v108 main_call8_call0_call0_v114 main_call8_call0_call0_v115 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_29 ((constantI S_ 32 29#32) : (⟨S_, .i32⟩ : BufTy).Contents (Elt F)),
  StableHlo.unary main_call8_call0_call0_c_29 main_call8_call0_call0_v116 ((broadcastInDim S128x100000 ![] bcast_S_S128x100000) : (⟨S_, .i32⟩ : BufTy).Contents (Elt F) → (⟨S128x100000, .i32⟩ : BufTy).Contents (Elt F)),
  StableHlo.binary main_call8_call0_call0_v114 main_call8_call0_call0_v116 main_call8_call0_call0_v117 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_30 ((constantI S_ 32 3#32) : (⟨S_, .i32⟩ : BufTy).Contents (Elt F)),
  StableHlo.unary main_call8_call0_call0_c_30 main_call8_call0_call0_v118 ((broadcastInDim S128x100000 ![] bcast_S_S128x100000) : (⟨S_, .i32⟩ : BufTy).Contents (Elt F) → (⟨S128x100000, .i32⟩ : BufTy).Contents (Elt F)),
  StableHlo.binary main_call8_call0_call0_v114 main_call8_call0_call0_v118 main_call8_call0_call0_v119 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v117 main_call8_call0_call0_v119 main_call8_call0_call0_v120 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v115 main_call8_call0_call0_v120 main_call8_call0_call0_v121 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v115 main_call8_call0_call0_v121 main_call8_call0_call0_v122 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_31 ((constantI S_ 32 16#32) : (⟨S_, .i32⟩ : BufTy).Contents (Elt F)),
  StableHlo.unary main_call8_call0_call0_c_31 main_call8_call0_call0_v123 ((broadcastInDim S128x100000 ![] bcast_S_S128x100000) : (⟨S_, .i32⟩ : BufTy).Contents (Elt F) → (⟨S128x100000, .i32⟩ : BufTy).Contents (Elt F)),
  StableHlo.binary main_call8_call0_call0_v121 main_call8_call0_call0_v123 main_call8_call0_call0_v124 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_32 ((constantI S_ 32 16#32) : (⟨S_, .i32⟩ : BufTy).Contents (Elt F)),
  StableHlo.unary main_call8_call0_call0_c_32 main_call8_call0_call0_v125 ((broadcastInDim S128x100000 ![] bcast_S_S128x100000) : (⟨S_, .i32⟩ : BufTy).Contents (Elt F) → (⟨S128x100000, .i32⟩ : BufTy).Contents (Elt F)),
  StableHlo.binary main_call8_call0_call0_v121 main_call8_call0_call0_v125 main_call8_call0_call0_v126 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v124 main_call8_call0_call0_v126 main_call8_call0_call0_v127 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v122 main_call8_call0_call0_v127 main_call8_call0_call0_v128 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v122 main_call8_call0_call0_v128 main_call8_call0_call0_v129 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_33 ((constantI S_ 32 24#32) : (⟨S_, .i32⟩ : BufTy).Contents (Elt F)),
  StableHlo.unary main_call8_call0_call0_c_33 main_call8_call0_call0_v130 ((broadcastInDim S128x100000 ![] bcast_S_S128x100000) : (⟨S_, .i32⟩ : BufTy).Contents (Elt F) → (⟨S128x100000, .i32⟩ : BufTy).Contents (Elt F)),
  StableHlo.binary main_call8_call0_call0_v128 main_call8_call0_call0_v130 main_call8_call0_call0_v131 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_34 ((constantI S_ 32 8#32) : (⟨S_, .i32⟩ : BufTy).Contents (Elt F)),
  StableHlo.unary main_call8_call0_call0_c_34 main_call8_call0_call0_v132 ((broadcastInDim S128x100000 ![] bcast_S_S128x100000) : (⟨S_, .i32⟩ : BufTy).Contents (Elt F) → (⟨S128x100000, .i32⟩ : BufTy).Contents (Elt F)),
  StableHlo.binary main_call8_call0_call0_v128 main_call8_call0_call0_v132 main_call8_call0_call0_v133 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v131 main_call8_call0_call0_v133 main_call8_call0_call0_v134 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v129 main_call8_call0_call0_v134 main_call8_call0_call0_v135 (xori : (⟨S128x100000, .i32⟩ : BufTy).Contents (Elt F) → (⟨S128x100000, .i32⟩ : BufTy).Contents (Elt F) → (⟨S128x100000, .i32⟩ : BufTy).Contents (Elt F)),
  StableHlo.unary main_call8_call0_v6 main_call8_call0_call0_v136 ((broadcastInDim S128x100000 ![] bcast_S_S128x100000) : (⟨S_, .i32⟩ : BufTy).Contents (Elt F) → (⟨S128x100000, .i32⟩ : BufTy).Contents (Elt F)),
  StableHlo.binary main_call8_call0_call0_v129 main_call8_call0_call0_v136 main_call8_call0_call0_v137 (addi : (⟨S128x100000, .i32⟩ : BufTy).Contents (Elt F) → (⟨S128x100000, .i32⟩ : BufTy).Contents (Elt F) → (⟨S128x100000, .i32⟩ : BufTy).Contents (Elt F)),
  StableHlo.unary main_call8_call0_call0_v1 main_call8_call0_call0_v138 ((broadcastInDim S128x100000 ![] bcast_S_S128x100000) : (⟨S_, .i32⟩ : BufTy).Contents (Elt F) → (⟨S128x100000, .i32⟩ : BufTy).Contents (Elt F)),
  StableHlo.binary main_call8_call0_call0_v135 main_call8_call0_call0_v138 main_call8_call0_call0_v139 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_35 ((constantI S_ 32 4#32) : (⟨S_, .i32⟩ : BufTy).Contents (Elt F)),
  StableHlo.unary main_call8_call0_call0_c_35 main_call8_call0_call0_v140 ((broadcastInDim S128x100000 ![] bcast_S_S128x100000) : (⟨S_, .i32⟩ : BufTy).Contents (Elt F) → (⟨S128x100000, .i32⟩ : BufTy).Contents (Elt F)),
  StableHlo.binary main_call8_call0_call0_v139 main_call8_call0_call0_v140 main_call8_call0_call0_v141 (addi : (⟨S128x100000, .i32⟩ : BufTy).Contents (Elt F) → (⟨S128x100000, .i32⟩ : BufTy).Contents (Elt F) → (⟨S128x100000, .i32⟩ : BufTy).Contents (Elt F)),
  StableHlo.binary main_call8_call0_call0_v137 main_call8_call0_call0_v141 main_call8_call0_call0_v142 (addi : (⟨S128x100000, .i32⟩ : BufTy).Contents (Elt F) → (⟨S128x100000, .i32⟩ : BufTy).Contents (Elt F) → (⟨S128x100000, .i32⟩ : BufTy).Contents (Elt F))]

/-- The generator of random words: its last operations. -/
def words3Ops : List (HloOp τ sig (Elt F)) := [
  StableHlo.nullary main_call8_call0_call0_c_36 ((constantI S_ 32 13#32) : (⟨S_, .i32⟩ : BufTy).Contents (Elt F)),
  StableHlo.unary main_call8_call0_call0_c_36 main_call8_call0_call0_v143 ((broadcastInDim S128x100000 ![] bcast_S_S128x100000) : (⟨S_, .i32⟩ : BufTy).Contents (Elt F) → (⟨S128x100000, .i32⟩ : BufTy).Contents (Elt F)),
  StableHlo.binary main_call8_call0_call0_v141 main_call8_call0_call0_v143 main_call8_call0_call0_v144 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_37 ((constantI S_ 32 19#32) : (⟨S_, .i32⟩ : BufTy).Contents (Elt F)),
  StableHlo.unary main_call8_call0_call0_c_37 main_call8_call0_call0_v145 ((broadcastInDim S128x100000 ![] bcast_S_S128x100000) : (⟨S_, .i32⟩ : BufTy).Contents (Elt F) → (⟨S128x100000, .i32⟩ : BufTy).Contents (Elt F)),
  StableHlo.binary main_call8_call0_call0_v141 main_call8_call0_call0_v145 main_call8_call0_call0_v146 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v144 main_call8_call0_call0_v146 main_call8_call0_call0_v147 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v142 main_call8_call0_call0_v147 main_call8_call0_call0_v148 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v142 main_call8_call0_call0_v148 main_call8_call0_call0_v149 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_38 ((constantI S_ 32 15#32) : (⟨S_, .i32⟩ : BufTy).Contents (Elt F)),
  StableHlo.unary main_call8_call0_call0_c_38 main_call8_call0_call0_v150 ((broadcastInDim S128x100000 ![] bcast_S_S128x100000) : (⟨S_, .i32⟩ : BufTy).Contents (Elt F) → (⟨S128x100000, .i32⟩ : BufTy).Contents (Elt F)),
  StableHlo.binary main_call8_call0_call0_v148 main_call8_call0_call0_v150 main_call8_call0_call0_v151 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_39 ((constantI S_ 32 17#32) : (⟨S_, .i32⟩ : BufTy).Contents (Elt F)),
  StableHlo.unary main_call8_call0_call0_c_39 main_call8_call0_call0_v152 ((broadcastInDim S128x100000 ![] bcast_S_S128x100000) : (⟨S_, .i32⟩ : BufTy).Contents (Elt F) → (⟨S128x100000, .i32⟩ : BufTy).Contents (Elt F)),
  StableHlo.binary main_call8_call0_call0_v148 main_call8_call0_call0_v152 main_call8_call0_call0_v153 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v151 main_call8_call0_call0_v153 main_call8_call0_call0_v154 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v149 main_call8_call0_call0_v154 main_call8_call0_call0_v155 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v149 main_call8_call0_call0_v155 main_call8_call0_call0_v156 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_40 ((constantI S_ 32 26#32) : (⟨S_, .i32⟩ : BufTy).Contents (Elt F)),
  StableHlo.unary main_call8_call0_call0_c_40 main_call8_call0_call0_v157 ((broadcastInDim S128x100000 ![] bcast_S_S128x100000) : (⟨S_, .i32⟩ : BufTy).Contents (Elt F) → (⟨S128x100000, .i32⟩ : BufTy).Contents (Elt F)),
  StableHlo.binary main_call8_call0_call0_v155 main_call8_call0_call0_v157 main_call8_call0_call0_v158 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_41 ((constantI S_ 32 6#32) : (⟨S_, .i32⟩ : BufTy).Contents (Elt F)),
  StableHlo.unary main_call8_call0_call0_c_41 main_call8_call0_call0_v159 ((broadcastInDim S128x100000 ![] bcast_S_S128x100000) : (⟨S_, .i32⟩ : BufTy).Contents (Elt F) → (⟨S128x100000, .i32⟩ : BufTy).Contents (Elt F)),
  StableHlo.binary main_call8_call0_call0_v155 main_call8_call0_call0_v159 main_call8_call0_call0_v160 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v158 main_call8_call0_call0_v160 main_call8_call0_call0_v161 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v156 main_call8_call0_call0_v161 main_call8_call0_call0_v162 (xori : (⟨S128x100000, .i32⟩ : BufTy).Contents (Elt F) → (⟨S128x100000, .i32⟩ : BufTy).Contents (Elt F) → (⟨S128x100000, .i32⟩ : BufTy).Contents (Elt F)),
  StableHlo.binary main_call8_call0_call0_v156 main_call8_call0_call0_v162 main_call8_call0_call0_v163 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_42 ((constantI S_ 32 6#32) : (⟨S_, .i32⟩ : BufTy).Contents (Elt F)),
  StableHlo.unary main_call8_call0_call0_c_42 main_call8_call0_call0_v164 ((broadcastInDim S128x100000 ![] bcast_S_S128x100000) : (⟨S_, .i32⟩ : BufTy).Contents (Elt F) → (⟨S128x100000, .i32⟩ : BufTy).Contents (Elt F)),
  StableHlo.binary main_call8_call0_call0_v162 main_call8_call0_call0_v164 main_call8_call0_call0_v165 (Host.shli : (⟨S128x100000, .i32⟩ : BufTy).Contents (Elt F) → (⟨S128x100000, .i32⟩ : BufTy).Contents (Elt F) → (⟨S128x100000, .i32⟩ : BufTy).Contents (Elt F)),
  StableHlo.nullary main_call8_call0_call0_c_43 ((constantI S_ 32 26#32) : (⟨S_, .i32⟩ : BufTy).Contents (Elt F)),
  StableHlo.unary main_call8_call0_call0_c_43 main_call8_call0_call0_v166 ((broadcastInDim S128x100000 ![] bcast_S_S128x100000) : (⟨S_, .i32⟩ : BufTy).Contents (Elt F) → (⟨S128x100000, .i32⟩ : BufTy).Contents (Elt F)),
  StableHlo.binary main_call8_call0_call0_v162 main_call8_call0_call0_v166 main_call8_call0_call0_v167 (Host.shrui : (⟨S128x100000, .i32⟩ : BufTy).Contents (Elt F) → (⟨S128x100000, .i32⟩ : BufTy).Contents (Elt F) → (⟨S128x100000, .i32⟩ : BufTy).Contents (Elt F)),
  StableHlo.binary main_call8_call0_call0_v165 main_call8_call0_call0_v167 main_call8_call0_call0_v168 (ori : (⟨S128x100000, .i32⟩ : BufTy).Contents (Elt F) → (⟨S128x100000, .i32⟩ : BufTy).Contents (Elt F) → (⟨S128x100000, .i32⟩ : BufTy).Contents (Elt F)),
  StableHlo.binary main_call8_call0_call0_v163 main_call8_call0_call0_v168 main_call8_call0_call0_v169 (xori : (⟨S128x100000, .i32⟩ : BufTy).Contents (Elt F) → (⟨S128x100000, .i32⟩ : BufTy).Contents (Elt F) → (⟨S128x100000, .i32⟩ : BufTy).Contents (Elt F)),
  StableHlo.unary main_call8_call0_call0_v1 main_call8_call0_call0_v170 ((broadcastInDim S128x100000 ![] bcast_S_S128x100000) : (⟨S_, .i32⟩ : BufTy).Contents (Elt F) → (⟨S128x100000, .i32⟩ : BufTy).Contents (Elt F)),
  StableHlo.binary main_call8_call0_call0_v163 main_call8_call0_call0_v170 main_call8_call0_v18_0 (addi : (⟨S128x100000, .i32⟩ : BufTy).Contents (Elt F) → (⟨S128x100000, .i32⟩ : BufTy).Contents (Elt F) → (⟨S128x100000, .i32⟩ : BufTy).Contents (Elt F)),
  StableHlo.unary main_call8_call0_v4 main_call8_call0_call0_v172 ((broadcastInDim S128x100000 ![] bcast_S_S128x100000) : (⟨S_, .i32⟩ : BufTy).Contents (Elt F) → (⟨S128x100000, .i32⟩ : BufTy).Contents (Elt F)),
  StableHlo.binary main_call8_call0_call0_v169 main_call8_call0_call0_v172 main_call8_call0_call0_v173 (addi : (⟨S128x100000, .i32⟩ : BufTy).Contents (Elt F) → (⟨S128x100000, .i32⟩ : BufTy).Contents (Elt F) → (⟨S128x100000, .i32⟩ : BufTy).Contents (Elt F)),
  StableHlo.nullary main_call8_call0_call0_c_44 ((constantI S_ 32 5#32) : (⟨S_, .i32⟩ : BufTy).Contents (Elt F)),
  StableHlo.unary main_call8_call0_call0_c_44 main_call8_call0_call0_v174 ((broadcastInDim S128x100000 ![] bcast_S_S128x100000) : (⟨S_, .i32⟩ : BufTy).Contents (Elt F) → (⟨S128x100000, .i32⟩ : BufTy).Contents (Elt F)),
  StableHlo.binary main_call8_call0_call0_v173 main_call8_call0_call0_v174 main_call8_call0_v18_1 (addi : (⟨S128x100000, .i32⟩ : BufTy).Contents (Elt F) → (⟨S128x100000, .i32⟩ : BufTy).Contents (Elt F) → (⟨S128x100000, .i32⟩ : BufTy).Contents (Elt F))]

/-- From the random words to the noise, the noisy logs and the index of the largest. -/
def pickOps : List (HloOp τ sig (Elt F)) := [
  StableHlo.binary main_call8_call0_v18_0 main_call8_call0_v18_1 main_call8_call0_v19 (xori : (⟨S128x100000, .i32⟩ : BufTy).Contents (Elt F) → (⟨S128x100000, .i32⟩ : BufTy).Contents (Elt F) → (⟨S128x100000, .i32⟩ : BufTy).Contents (Elt F)),
  StableHlo.nullary main_call8_call0_c_2 ((constantI S_ 32 9#32) : (⟨S_, .i32⟩ : BufTy).Contents (Elt F)),
  StableHlo.unary main_call8_call0_c_2 main_call8_call0_v20 ((broadcastInDim S128x100000 ![] bcast_S_S128x100000) : (⟨S_, .i32⟩ : BufTy).Contents (Elt F) → (⟨S128x100000, .i32⟩ : BufTy).Contents (Elt F)),
  StableHlo.binary main_call8_call0_v19 main_call8_call0_v20 main_call8_call0_v21 (Host.shrui : (⟨S128x100000, .i32⟩ : BufTy).Contents (Elt F) → (⟨S128x100000, .i32⟩ : BufTy).Contents (Elt F) → (⟨S128x100000, .i32⟩ : BufTy).Contents (Elt F)),
  StableHlo.nullary main_call8_call0_c_3 ((constantI S_ 32 1065353216#32) : (⟨S_, .i32⟩ : BufTy).Contents (Elt F)),
  StableHlo.unary main_call8_call0_c_3 main_call8_call0_v22 ((broadcastInDim S128x100000 ![] bcast_S_S128x100000) : (⟨S_, .i32⟩ : BufTy).Contents (Elt F) → (⟨S128x100000, .i32⟩ : BufTy).Contents (Elt F)),
  StableHlo.binary main_call8_call0_v21 main_call8_call0_v22 main_call8_call0_v23 (ori : (⟨S128x100000, .i32⟩ : BufTy).Contents (Elt F) → (⟨S128x100000, .i32⟩ : BufTy).Contents (Elt F) → (⟨S128x100000, .i32⟩ : BufTy).Contents (Elt F)),
  StableHlo.unary main_call8_call0_v23 main_call8_call0_v24 ((bitcastToFloat (F := F) .f32) : (⟨S128x100000, .i32⟩ : BufTy).Contents (Elt F) → (⟨S128x100000, .f32⟩ : BufTy).Contents (Elt F)),
  StableHlo.nullary main_call8_call0_cst ((constant S_ .f32 0x3F800000#32) : (⟨S_, .f32⟩ : BufTy).Contents (Elt F)),
  StableHlo.unary main_call8_call0_cst main_call8_call0_v25 ((broadcastInDim S128x100000 ![] bcast_S_S128x100000) : (⟨S_, .f32⟩ : BufTy).Contents (Elt F) → (⟨S128x100000, .f32⟩ : BufTy).Contents (Elt F)),
  StableHlo.binary main_call8_call0_v24 main_call8_call0_v25 main_call8_call0_v26 (subf : (⟨S128x100000, .f32⟩ : BufTy).Contents (Elt F) → (⟨S128x100000, .f32⟩ : BufTy).Contents (Elt F) → (⟨S128x100000, .f32⟩ : BufTy).Contents (Elt F)),
  StableHlo.binary main_call8_call0_v2 main_call8_call0_v1 main_call8_call0_v27 (subf : (⟨S1x1, .f32⟩ : BufTy).Contents (Elt F) → (⟨S1x1, .f32⟩ : BufTy).Contents (Elt F) → (⟨S1x1, .f32⟩ : BufTy).Contents (Elt F)),
  StableHlo.unary main_call8_call0_v27 main_call8_call0_v28 ((broadcastInDim S128x100000 ![0, 1] bcast_S1x1_S128x100000_0_1) : (⟨S1x1, .f32⟩ : BufTy).Contents (Elt F) → (⟨S128x100000, .f32⟩ : BufTy).Contents (Elt F)),
  StableHlo.binary main_call8_call0_v26 main_call8_call0_v28 main_call8_call0_v29 (mulf : (⟨S128x100000, .f32⟩ : BufTy).Contents (Elt F) → (⟨S128x100000, .f32⟩ : BufTy).Contents (Elt F) → (⟨S128x100000, .f32⟩ : BufTy).Contents (Elt F)),
  StableHlo.unary main_call8_call0_v1 main_call8_call0_v30 ((broadcastInDim S128x100000 ![0, 1] bcast_S1x1_S128x100000_0_1) : (⟨S1x1, .f32⟩ : BufTy).Contents (Elt F) → (⟨S128x100000, .f32⟩ : BufTy).Contents (Elt F)),
  StableHlo.binary main_call8_call0_v29 main_call8_call0_v30 main_call8_call0_v31 (addf : (⟨S128x100000, .f32⟩ : BufTy).Contents (Elt F) → (⟨S128x100000, .f32⟩ : BufTy).Contents (Elt F) → (⟨S128x100000, .f32⟩ : BufTy).Contents (Elt F)),
  StableHlo.unary main_call8_call0_v1 main_call8_call0_v32 ((broadcastInDim S128x100000 ![0, 1] bcast_S1x1_S128x100000_0_1) : (⟨S1x1, .f32⟩ : BufTy).Contents (Elt F) → (⟨S128x100000, .f32⟩ : BufTy).Contents (Elt F)),
  StableHlo.binary main_call8_call0_v32 main_call8_call0_v31 main_call8_v0 (maximumf : (⟨S128x100000, .f32⟩ : BufTy).Contents (Elt F) → (⟨S128x100000, .f32⟩ : BufTy).Contents (Elt F) → (⟨S128x100000, .f32⟩ : BufTy).Contents (Elt F)),
  StableHlo.unary main_call8_v0 main_call8_v1 (Host.log : (⟨S128x100000, .f32⟩ : BufTy).Contents (Elt F) → (⟨S128x100000, .f32⟩ : BufTy).Contents (Elt F)),
  StableHlo.unary main_call8_v1 main_call8_v2 (Host.negf : (⟨S128x100000, .f32⟩ : BufTy).Contents (Elt F) → (⟨S128x100000, .f32⟩ : BufTy).Contents (Elt F)),
  StableHlo.unary main_call8_v2 main_call8_v3 (Host.log : (⟨S128x100000, .f32⟩ : BufTy).Contents (Elt F) → (⟨S128x100000, .f32⟩ : BufTy).Contents (Elt F)),
  StableHlo.unary main_call8_v3 main_v55 (Host.negf : (⟨S128x100000, .f32⟩ : BufTy).Contents (Elt F) → (⟨S128x100000, .f32⟩ : BufTy).Contents (Elt F)),
  StableHlo.binary main_v55 main_v54 main_v56 (addf : (⟨S128x100000, .f32⟩ : BufTy).Contents (Elt F) → (⟨S128x100000, .f32⟩ : BufTy).Contents (Elt F) → (⟨S128x100000, .f32⟩ : BufTy).Contents (Elt F)),
  StableHlo.nullary main_call9_v0 ((iotaInDim S128x100000 32 1) : (⟨S128x100000, .i32⟩ : BufTy).Contents (Elt F)),
  StableHlo.nullary main_call9_cst ((constant S_ .f32 0xFF800000#32) : (⟨S_, .f32⟩ : BufTy).Contents (Elt F)),
  StableHlo.nullary main_call9_c ((constantI S_ 32 0#32) : (⟨S_, .i32⟩ : BufTy).Contents (Elt F)),
  StableHlo.quaternary main_v56 main_call9_v0 main_call9_cst main_call9_c main_call9_v1_0 ((fun x y u v j => (Host.argReduce reducer_argmax_f32_i32 x y u v reducesTo_S128x100000_S128_d1 h_S_ j).1) : (⟨S128x100000, .f32⟩ : BufTy).Contents (Elt F) → (⟨S128x100000, .i32⟩ : BufTy).Contents (Elt F) → (⟨S_, .f32⟩ : BufTy).Contents (Elt F) → (⟨S_, .i32⟩ : BufTy).Contents (Elt F) → (⟨S128, .f32⟩ : BufTy).Contents (Elt F)),
  StableHlo.quaternary main_v56 main_call9_v0 main_call9_cst main_call9_c main_v57 ((fun x y u v j => (Host.argReduce reducer_argmax_f32_i32 x y u v reducesTo_S128x100000_S128_d1 h_S_ j).2) : (⟨S128x100000, .f32⟩ : BufTy).Contents (Elt F) → (⟨S128x100000, .i32⟩ : BufTy).Contents (Elt F) → (⟨S_, .f32⟩ : BufTy).Contents (Elt F) → (⟨S_, .i32⟩ : BufTy).Contents (Elt F) → (⟨S128, .i32⟩ : BufTy).Contents (Elt F))]

/-- The buffers `logitsOps` writes, in order. -/
abbrev logitsRefs : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_c_3, main_call0_v11, main_call0_v12, main_call0_v13, main_call0_cst, main_call0_v14, main_v0, main_v1, main_v2, main_v3, main_v4, main_v5, main_v6]

theorem logits_writes : (logitsOps (F := F)).map HloOp.writes = logitsRefs.map fun r => {Proc.devRef (τ := τ) .tc r} := rfl
theorem logits_sub : (logitsOps (F := F)).Forall fun op => op.bufs ⊆ tcRefs τ sig :=
  ⟨StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.ternary_bufs_sub _ _ _ _ _ _ _ _ _, StableHlo.unary_bufs_sub _ _ _ _ _, StableHlo.nullary_bufs_sub _ _ _, StableHlo.nullary_bufs_sub _ _ _, StableHlo.unary_bufs_sub _ _ _ _ _, StableHlo.binary_bufs_sub _ _ _ _ _ _ _, StableHlo.unary_bufs_sub _ _ _ _ _, StableHlo.binary_bufs_sub _ _ _ _ _ _ _, StableHlo.binary_bufs_sub _ _ _ _ _ _ _, StableHlo.nullary_bufs_sub _ _ _, StableHlo.binary_bufs_sub _ _ _ _ _ _ _, StableHlo.binary_bufs_sub _ _ _ _ _ _ _, StableHlo.unary_bufs_sub _ _ _ _ _, StableHlo.nullary_bufs_sub _ _ _, StableHlo.unary_bufs_sub _ _ _ _ _, StableHlo.ternary_bufs_sub _ _ _ _ _ _ _ _ _, StableHlo.reshape_bufs_sub _ _ _ _ _ _, StableHlo.unary_bufs_sub _ _ _ _ _, StableHlo.binary_bufs_sub _ _ _ _ _ _ _, StableHlo.unary_bufs_sub _ _ _ _ _, StableHlo.unary_bufs_sub _ _ _ _ _, StableHlo.binary_bufs_sub _ _ _ _ _ _ _⟩
theorem logits_fresh : (logitsOps (F := F)).Forall fun op => op.fresh = ∅ := StableHlo.forall_fresh_of_map rfl

/-- The buffers `softmaxOps` writes, in order. -/
abbrev softmaxRefs : List (Ref sig .tc) := [main_v7, main_v8, main_v9, main_cst, main_v10, main_cst_0, main_v11, main_v12, main_v13, main_v14, main_v15, main_v16, main_cst_1, main_v17, main_v18, main_v19, main_v20, main_v21]

theorem softmax_writes : (softmaxOps (F := F)).map HloOp.writes = softmaxRefs.map fun r => {Proc.devRef (τ := τ) .tc r} := rfl
theorem softmax_sub : (softmaxOps (F := F)).Forall fun op => op.bufs ⊆ tcRefs τ sig :=
  ⟨StableHlo.unary_bufs_sub _ _ _ _ _, StableHlo.unary_bufs_sub _ _ _ _ _, StableHlo.binary_bufs_sub _ _ _ _ _ _ _, StableHlo.nullary_bufs_sub _ _ _, StableHlo.binary_bufs_sub _ _ _ _ _ _ _, StableHlo.nullary_bufs_sub _ _ _, StableHlo.unary_bufs_sub _ _ _ _ _, StableHlo.binary_bufs_sub _ _ _ _ _ _ _, StableHlo.unary_bufs_sub _ _ _ _ _, StableHlo.unary_bufs_sub _ _ _ _ _, StableHlo.binary_bufs_sub _ _ _ _ _ _ _, StableHlo.unary_bufs_sub _ _ _ _ _, StableHlo.nullary_bufs_sub _ _ _, StableHlo.binary_bufs_sub _ _ _ _ _ _ _, StableHlo.unary_bufs_sub _ _ _ _ _, StableHlo.unary_bufs_sub _ _ _ _ _, StableHlo.binary_bufs_sub _ _ _ _ _ _ _, StableHlo.unary_bufs_sub _ _ _ _ _⟩
theorem softmax_fresh : (softmaxOps (F := F)).Forall fun op => op.fresh = ∅ := StableHlo.forall_fresh_of_map rfl

/-- The buffers `orderOps` writes, in order. -/
abbrev orderRefs : List (Ref sig .tc) := [main_call1_v0, main_call1_v1_0, main_v22]

theorem order_writes : (orderOps (F := F)).map HloOp.writes = orderRefs.map fun r => {Proc.devRef (τ := τ) .tc r} := rfl
theorem order_sub : (orderOps (F := F)).Forall fun op => op.bufs ⊆ tcRefs τ sig :=
  ⟨StableHlo.nullary_bufs_sub _ _ _, StableHlo.binary_bufs_sub _ _ _ _ _ _ _, StableHlo.binary_bufs_sub _ _ _ _ _ _ _⟩
theorem order_fresh : (orderOps (F := F)).Forall fun op => op.fresh = ∅ := StableHlo.forall_fresh_of_map rfl

/-- The buffers `rankedOps` writes, in order. -/
abbrev rankedRefs : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v23]

theorem ranked_writes : (rankedOps (F := F)).map HloOp.writes = rankedRefs.map fun r => {Proc.devRef (τ := τ) .tc r} := rfl
theorem ranked_sub : (rankedOps (F := F)).Forall fun op => op.bufs ⊆ tcRefs τ sig :=
  ⟨StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.ternary_bufs_sub _ _ _ _ _ _ _ _ _, StableHlo.reshape_bufs_sub _ _ _ _ _ _, StableHlo.nullary_bufs_sub _ _ _, StableHlo.nullary_bufs_sub _ _ _, StableHlo.unary_bufs_sub _ _ _ _ _, StableHlo.binary_bufs_sub _ _ _ _ _ _ _, StableHlo.unary_bufs_sub _ _ _ _ _, StableHlo.unary_bufs_sub _ _ _ _ _, StableHlo.binary_bufs_sub _ _ _ _ _ _ _, StableHlo.binary_bufs_sub _ _ _ _ _ _ _, StableHlo.nullary_bufs_sub _ _ _, StableHlo.binary_bufs_sub _ _ _ _ _ _ _, StableHlo.binary_bufs_sub _ _ _ _ _ _ _, StableHlo.nullary_bufs_sub _ _ _, StableHlo.unary_bufs_sub _ _ _ _ _, StableHlo.ternary_bufs_sub _ _ _ _ _ _ _ _ _⟩
theorem ranked_fresh : (rankedOps (F := F)).Forall fun op => op.fresh = ∅ := StableHlo.forall_fresh_of_map rfl

/-- The buffers `keptOps` writes, in order. -/
abbrev keptRefs : List (Ref sig .tc) := [main_call3_call0_cst, main_call3_call0_v0, main_v24, main_v25, main_v26, main_v27, main_v28, main_cst_2, main_call4_v0, main_call4_v1, main_v29, main_v30, main_v31, main_v32, main_v33, main_v34, main_v35, main_c, main_v36, main_v37, main_cst_3, main_call5_v0, main_call5_v1, main_v38, main_cst_4, main_v39, main_v40, main_v41, main_v42]

theorem kept_writes : (keptOps (F := F)).map HloOp.writes = keptRefs.map fun r => {Proc.devRef (τ := τ) .tc r} := rfl
theorem kept_sub : (keptOps (F := F)).Forall fun op => op.bufs ⊆ tcRefs τ sig :=
  ⟨StableHlo.nullary_bufs_sub _ _ _, StableHlo.unary_bufs_sub _ _ _ _ _, StableHlo.binary_bufs_sub _ _ _ _ _ _ _, StableHlo.binary_bufs_sub _ _ _ _ _ _ _, StableHlo.unary_bufs_sub _ _ _ _ _, StableHlo.unary_bufs_sub _ _ _ _ _, StableHlo.binary_bufs_sub _ _ _ _ _ _ _, StableHlo.nullary_bufs_sub _ _ _, StableHlo.unary_bufs_sub _ _ _ _ _, StableHlo.unary_bufs_sub _ _ _ _ _, StableHlo.ternary_bufs_sub _ _ _ _ _ _ _ _ _, StableHlo.nullary_bufs_sub _ _ _, StableHlo.unary_bufs_sub _ _ _ _ _, StableHlo.unary_bufs_sub _ _ _ _ _, StableHlo.unary_bufs_sub _ _ _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.unary_bufs_sub _ _ _ _ _, StableHlo.ternary_bufs_sub _ _ _ _ _ _ _ _ _, StableHlo.nullary_bufs_sub _ _ _, StableHlo.binary_bufs_sub _ _ _ _ _ _ _, StableHlo.unary_bufs_sub _ _ _ _ _, StableHlo.unary_bufs_sub _ _ _ _ _, StableHlo.binary_bufs_sub _ _ _ _ _ _ _⟩
theorem kept_fresh : (keptOps (F := F)).Forall fun op => op.fresh = ∅ := StableHlo.forall_fresh_of_map rfl

/-- The buffers `unorderOps` writes, in order. -/
abbrev unorderRefs : List (Ref sig .tc) := [main_call6_v0, main_call6_v1_0, main_v43]

theorem unorder_writes : (unorderOps (F := F)).map HloOp.writes = unorderRefs.map fun r => {Proc.devRef (τ := τ) .tc r} := rfl
theorem unorder_sub : (unorderOps (F := F)).Forall fun op => op.bufs ⊆ tcRefs τ sig :=
  ⟨StableHlo.nullary_bufs_sub _ _ _, StableHlo.binary_bufs_sub _ _ _ _ _ _ _, StableHlo.binary_bufs_sub _ _ _ _ _ _ _⟩
theorem unorder_fresh : (unorderOps (F := F)).Forall fun op => op.fresh = ∅ := StableHlo.forall_fresh_of_map rfl

/-- The buffers `unrankedOps` writes, in order. -/
abbrev unrankedRefs : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v44]

theorem unranked_writes : (unrankedOps (F := F)).map HloOp.writes = unrankedRefs.map fun r => {Proc.devRef (τ := τ) .tc r} := rfl
theorem unranked_sub : (unrankedOps (F := F)).Forall fun op => op.bufs ⊆ tcRefs τ sig :=
  ⟨StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.ternary_bufs_sub _ _ _ _ _ _ _ _ _, StableHlo.reshape_bufs_sub _ _ _ _ _ _, StableHlo.nullary_bufs_sub _ _ _, StableHlo.nullary_bufs_sub _ _ _, StableHlo.unary_bufs_sub _ _ _ _ _, StableHlo.binary_bufs_sub _ _ _ _ _ _ _, StableHlo.unary_bufs_sub _ _ _ _ _, StableHlo.unary_bufs_sub _ _ _ _ _, StableHlo.binary_bufs_sub _ _ _ _ _ _ _, StableHlo.binary_bufs_sub _ _ _ _ _ _ _, StableHlo.nullary_bufs_sub _ _ _, StableHlo.binary_bufs_sub _ _ _ _ _ _ _, StableHlo.binary_bufs_sub _ _ _ _ _ _ _, StableHlo.nullary_bufs_sub _ _ _, StableHlo.unary_bufs_sub _ _ _ _ _, StableHlo.ternary_bufs_sub _ _ _ _ _ _ _ _ _⟩
theorem unranked_fresh : (unrankedOps (F := F)).Forall fun op => op.fresh = ∅ := StableHlo.forall_fresh_of_map rfl

/-- The buffers `seedsAOps` writes, in order. -/
abbrev seedsARefs : List (Ref sig .tc) := [main_c_5, main_c_6, main_v45, main_v46, main_v47, main_c_7, main_v48, main_v49]

theorem seedsA_writes : (seedsAOps (F := F)).map HloOp.writes = seedsARefs.map fun r => {Proc.devRef (τ := τ) .tc r} := rfl
theorem seedsA_sub : (seedsAOps (F := F)).Forall fun op => op.bufs ⊆ tcRefs τ sig :=
  ⟨StableHlo.nullary_bufs_sub _ _ _, StableHlo.nullary_bufs_sub _ _ _, StableHlo.binary_bufs_sub _ _ _ _ _ _ _, StableHlo.unary_bufs_sub _ _ _ _ _, StableHlo.unary_bufs_sub _ _ _ _ _, StableHlo.nullary_bufs_sub _ _ _, StableHlo.binary_bufs_sub _ _ _ _ _ _ _, StableHlo.unary_bufs_sub _ _ _ _ _⟩
theorem seedsA_fresh : (seedsAOps (F := F)).Forall fun op => op.fresh = ∅ := StableHlo.forall_fresh_of_map rfl

/-- The buffers `seedsBOps` writes, in order. -/
abbrev seedsBRefs : List (Ref sig .tc) := [main_v50, main_v51, main_cst_8, main_v52, main_v53, main_v54, main_call8_cst, main_call8_cst_0, main_call8_call0_v0, main_call8_call0_v1, main_call8_call0_v2, main_call8_call0_v3, main_call8_call0_v4, main_call8_call0_v5, main_call8_call0_v6, main_call8_call0_v7, main_call8_call0_v8, main_call8_call0_c, main_call8_call0_v9, main_call8_call0_v10, main_call8_call0_c_0, main_call8_call0_v11, main_call8_call0_v12, main_call8_call0_v13, main_call8_call0_c_1, main_call8_call0_v14, main_call8_call0_v15, main_call8_call0_v16, main_call8_call0_v17]

theorem seedsB_writes : (seedsBOps (F := F)).map HloOp.writes = seedsBRefs.map fun r => {Proc.devRef (τ := τ) .tc r} := rfl
theorem seedsB_sub : (seedsBOps (F := F)).Forall fun op => op.bufs ⊆ tcRefs τ sig :=
  ⟨StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.unary_bufs_sub _ _ _ _ _, StableHlo.nullary_bufs_sub _ _ _, StableHlo.nullary_bufs_sub _ _ _, StableHlo.unary_bufs_sub _ _ _ _ _, StableHlo.unary_bufs_sub _ _ _ _ _, StableHlo.unary_bufs_sub _ _ _ _ _, StableHlo.unary_bufs_sub _ _ _ _ _, StableHlo.reshape_bufs_sub _ _ _ _ _ _, StableHlo.unary_bufs_sub _ _ _ _ _, StableHlo.reshape_bufs_sub _ _ _ _ _ _, StableHlo.nullary_bufs_sub _ _ _, StableHlo.nullary_bufs_sub _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.unary_bufs_sub _ _ _ _ _, StableHlo.unary_bufs_sub _ _ _ _ _⟩
theorem seedsB_fresh : (seedsBOps (F := F)).Forall fun op => op.fresh = ∅ := StableHlo.forall_fresh_of_map rfl

/-- The buffers `words0Ops` writes, in order. -/
abbrev words0Refs : List (Ref sig .tc) := [main_call8_call0_call0_v0, main_call8_call0_call0_c, main_call8_call0_call0_v1, main_call8_call0_call0_v2, main_call8_call0_call0_v3, main_call8_call0_call0_v4, main_call8_call0_call0_v5, main_call8_call0_call0_v6, main_call8_call0_call0_c_0, main_call8_call0_call0_v7, main_call8_call0_call0_v8, main_call8_call0_call0_c_1, main_call8_call0_call0_v9, main_call8_call0_call0_v10, main_call8_call0_call0_v11, main_call8_call0_call0_v12, main_call8_call0_call0_v13, main_call8_call0_call0_c_2, main_call8_call0_call0_v14, main_call8_call0_call0_v15, main_call8_call0_call0_c_3, main_call8_call0_call0_v16, main_call8_call0_call0_v17, main_call8_call0_call0_v18, main_call8_call0_call0_v19, main_call8_call0_call0_v20, main_call8_call0_call0_c_4, main_call8_call0_call0_v21, main_call8_call0_call0_v22, main_call8_call0_call0_c_5, main_call8_call0_call0_v23, main_call8_call0_call0_v24, main_call8_call0_call0_v25, main_call8_call0_call0_v26, main_call8_call0_call0_v27, main_call8_call0_call0_c_6, main_call8_call0_call0_v28, main_call8_call0_call0_v29, main_call8_call0_call0_c_7, main_call8_call0_call0_v30, main_call8_call0_call0_v31, main_call8_call0_call0_v32, main_call8_call0_call0_v33, main_call8_call0_call0_v34, main_call8_call0_call0_v35, main_call8_call0_call0_v36, main_call8_call0_call0_v37, main_call8_call0_call0_c_8, main_call8_call0_call0_v38, main_call8_call0_call0_v39, main_call8_call0_call0_v40, main_call8_call0_call0_c_9, main_call8_call0_call0_v41, main_call8_call0_call0_v42, main_call8_call0_call0_c_10, main_call8_call0_call0_v43, main_call8_call0_call0_v44, main_call8_call0_call0_v45, main_call8_call0_call0_v46, main_call8_call0_call0_v47]

theorem words0_writes : (words0Ops (F := F)).map HloOp.writes = words0Refs.map fun r => {Proc.devRef (τ := τ) .tc r} := rfl
theorem words0_sub : (words0Ops (F := F)).Forall fun op => op.bufs ⊆ tcRefs τ sig :=
  ⟨StableHlo.binary_bufs_sub _ _ _ _ _ _ _, StableHlo.nullary_bufs_sub _ _ _, StableHlo.binary_bufs_sub _ _ _ _ _ _ _, StableHlo.unary_bufs_sub _ _ _ _ _, StableHlo.binary_bufs_sub _ _ _ _ _ _ _, StableHlo.unary_bufs_sub _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.unary_bufs_sub _ _ _ _ _, StableHlo.binary_bufs_sub _ _ _ _ _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _⟩
theorem words0_fresh : (words0Ops (F := F)).Forall fun op => op.fresh = ∅ := StableHlo.forall_fresh_of_map rfl

/-- The buffers `words1Ops` writes, in order. -/
abbrev words1Refs : List (Ref sig .tc) := [main_call8_call0_call0_c_11, main_call8_call0_call0_v48, main_call8_call0_call0_v49, main_call8_call0_call0_c_12, main_call8_call0_call0_v50, main_call8_call0_call0_v51, main_call8_call0_call0_v52, main_call8_call0_call0_v53, main_call8_call0_call0_v54, main_call8_call0_call0_c_13, main_call8_call0_call0_v55, main_call8_call0_call0_v56, main_call8_call0_call0_c_14, main_call8_call0_call0_v57, main_call8_call0_call0_v58, main_call8_call0_call0_v59, main_call8_call0_call0_v60, main_call8_call0_call0_v61, main_call8_call0_call0_c_15, main_call8_call0_call0_v62, main_call8_call0_call0_v63, main_call8_call0_call0_c_16, main_call8_call0_call0_v64, main_call8_call0_call0_v65, main_call8_call0_call0_v66, main_call8_call0_call0_v67, main_call8_call0_call0_v68, main_call8_call0_call0_v69, main_call8_call0_call0_v70, main_call8_call0_call0_v71, main_call8_call0_call0_c_17, main_call8_call0_call0_v72, main_call8_call0_call0_v73, main_call8_call0_call0_v74, main_call8_call0_call0_c_18, main_call8_call0_call0_v75, main_call8_call0_call0_v76, main_call8_call0_call0_c_19, main_call8_call0_call0_v77, main_call8_call0_call0_v78, main_call8_call0_call0_v79, main_call8_call0_call0_v80, main_call8_call0_call0_v81, main_call8_call0_call0_c_20, main_call8_call0_call0_v82, main_call8_call0_call0_v83, main_call8_call0_call0_c_21, main_call8_call0_call0_v84, main_call8_call0_call0_v85, main_call8_call0_call0_v86, main_call8_call0_call0_v87, main_call8_call0_call0_v88, main_call8_call0_call0_c_22, main_call8_call0_call0_v89, main_call8_call0_call0_v90, main_call8_call0_call0_c_23, main_call8_call0_call0_v91, main_call8_call0_call0_v92, main_call8_call0_call0_v93, main_call8_call0_call0_v94]

theorem words1_writes : (words1Ops (F := F)).map HloOp.writes = words1Refs.map fun r => {Proc.devRef (τ := τ) .tc r} := rfl
theorem words1_sub : (words1Ops (F := F)).Forall fun op => op.bufs ⊆ tcRefs τ sig :=
  ⟨StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.unary_bufs_sub _ _ _ _ _, StableHlo.binary_bufs_sub _ _ _ _ _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _⟩
theorem words1_fresh : (words1Ops (F := F)).Forall fun op => op.fresh = ∅ := StableHlo.forall_fresh_of_map rfl

/-- The buffers `words2Ops` writes, in order. -/
abbrev words2Refs : List (Ref sig .tc) := [main_call8_call0_call0_v95, main_call8_call0_call0_c_24, main_call8_call0_call0_v96, main_call8_call0_call0_v97, main_call8_call0_call0_c_25, main_call8_call0_call0_v98, main_call8_call0_call0_v99, main_call8_call0_call0_v100, main_call8_call0_call0_v101, main_call8_call0_call0_v102, main_call8_call0_call0_v103, main_call8_call0_call0_v104, main_call8_call0_call0_v105, main_call8_call0_call0_c_26, main_call8_call0_call0_v106, main_call8_call0_call0_v107, main_call8_call0_call0_v108, main_call8_call0_call0_c_27, main_call8_call0_call0_v109, main_call8_call0_call0_v110, main_call8_call0_call0_c_28, main_call8_call0_call0_v111, main_call8_call0_call0_v112, main_call8_call0_call0_v113, main_call8_call0_call0_v114, main_call8_call0_call0_v115, main_call8_call0_call0_c_29, main_call8_call0_call0_v116, main_call8_call0_call0_v117, main_call8_call0_call0_c_30, main_call8_call0_call0_v118, main_call8_call0_call0_v119, main_call8_call0_call0_v120, main_call8_call0_call0_v121, main_call8_call0_call0_v122, main_call8_call0_call0_c_31, main_call8_call0_call0_v123, main_call8_call0_call0_v124, main_call8_call0_call0_c_32, main_call8_call0_call0_v125, main_call8_call0_call0_v126, main_call8_call0_call0_v127, main_call8_call0_call0_v128, main_call8_call0_call0_v129, main_call8_call0_call0_c_33, main_call8_call0_call0_v130, main_call8_call0_call0_v131, main_call8_call0_call0_c_34, main_call8_call0_call0_v132, main_call8_call0_call0_v133, main_call8_call0_call0_v134, main_call8_call0_call0_v135, main_call8_call0_call0_v136, main_call8_call0_call0_v137, main_call8_call0_call0_v138, main_call8_call0_call0_v139, main_call8_call0_call0_c_35, main_call8_call0_call0_v140, main_call8_call0_call0_v141, main_call8_call0_call0_v142]

theorem words2_writes : (words2Ops (F := F)).map HloOp.writes = words2Refs.map fun r => {Proc.devRef (τ := τ) .tc r} := rfl
theorem words2_sub : (words2Ops (F := F)).Forall fun op => op.bufs ⊆ tcRefs τ sig :=
  ⟨StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.unary_bufs_sub _ _ _ _ _, StableHlo.binary_bufs_sub _ _ _ _ _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.unary_bufs_sub _ _ _ _ _, StableHlo.binary_bufs_sub _ _ _ _ _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _⟩
theorem words2_fresh : (words2Ops (F := F)).Forall fun op => op.fresh = ∅ := StableHlo.forall_fresh_of_map rfl

/-- The buffers `words3Ops` writes, in order. -/
abbrev words3Refs : List (Ref sig .tc) := [main_call8_call0_call0_c_36, main_call8_call0_call0_v143, main_call8_call0_call0_v144, main_call8_call0_call0_c_37, main_call8_call0_call0_v145, main_call8_call0_call0_v146, main_call8_call0_call0_v147, main_call8_call0_call0_v148, main_call8_call0_call0_v149, main_call8_call0_call0_c_38, main_call8_call0_call0_v150, main_call8_call0_call0_v151, main_call8_call0_call0_c_39, main_call8_call0_call0_v152, main_call8_call0_call0_v153, main_call8_call0_call0_v154, main_call8_call0_call0_v155, main_call8_call0_call0_v156, main_call8_call0_call0_c_40, main_call8_call0_call0_v157, main_call8_call0_call0_v158, main_call8_call0_call0_c_41, main_call8_call0_call0_v159, main_call8_call0_call0_v160, main_call8_call0_call0_v161, main_call8_call0_call0_v162, main_call8_call0_call0_v163, main_call8_call0_call0_c_42, main_call8_call0_call0_v164, main_call8_call0_call0_v165, main_call8_call0_call0_c_43, main_call8_call0_call0_v166, main_call8_call0_call0_v167, main_call8_call0_call0_v168, main_call8_call0_call0_v169, main_call8_call0_call0_v170, main_call8_call0_v18_0, main_call8_call0_call0_v172, main_call8_call0_call0_v173, main_call8_call0_call0_c_44, main_call8_call0_call0_v174, main_call8_call0_v18_1]

theorem words3_writes : (words3Ops (F := F)).map HloOp.writes = words3Refs.map fun r => {Proc.devRef (τ := τ) .tc r} := rfl
theorem words3_sub : (words3Ops (F := F)).Forall fun op => op.bufs ⊆ tcRefs τ sig :=
  ⟨StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.binary_bufs_sub _ _ _ _ _ _ _, StableHlo.binary_bufs_sub _ _ _ _ _ _ _, StableHlo.unary_bufs_sub _ _ _ _ _, StableHlo.binary_bufs_sub _ _ _ _ _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _⟩
theorem words3_fresh : (words3Ops (F := F)).Forall fun op => op.fresh = ∅ := StableHlo.forall_fresh_of_map rfl

/-- The buffers `pickOps` writes, in order. -/
abbrev pickRefs : List (Ref sig .tc) := [main_call8_call0_v19, main_call8_call0_c_2, main_call8_call0_v20, main_call8_call0_v21, main_call8_call0_c_3, main_call8_call0_v22, main_call8_call0_v23, main_call8_call0_v24, main_call8_call0_cst, main_call8_call0_v25, main_call8_call0_v26, main_call8_call0_v27, main_call8_call0_v28, main_call8_call0_v29, main_call8_call0_v30, main_call8_call0_v31, main_call8_call0_v32, main_call8_v0, main_call8_v1, main_call8_v2, main_call8_v3, main_v55, main_v56, main_call9_v0, main_call9_cst, main_call9_c, main_call9_v1_0, main_v57]

theorem pick_writes : (pickOps (F := F)).map HloOp.writes = pickRefs.map fun r => {Proc.devRef (τ := τ) .tc r} := rfl
theorem pick_sub : (pickOps (F := F)).Forall fun op => op.bufs ⊆ tcRefs τ sig :=
  ⟨StableHlo.binary_bufs_sub _ _ _ _ _ _ _, StableHlo.nullary_bufs_sub _ _ _, StableHlo.unary_bufs_sub _ _ _ _ _, StableHlo.binary_bufs_sub _ _ _ _ _ _ _, StableHlo.nullary_bufs_sub _ _ _, StableHlo.unary_bufs_sub _ _ _ _ _, StableHlo.binary_bufs_sub _ _ _ _ _ _ _, StableHlo.unary_bufs_sub _ _ _ _ _, StableHlo.nullary_bufs_sub _ _ _, StableHlo.unary_bufs_sub _ _ _ _ _, StableHlo.binary_bufs_sub _ _ _ _ _ _ _, StableHlo.binary_bufs_sub _ _ _ _ _ _ _, StableHlo.unary_bufs_sub _ _ _ _ _, StableHlo.binary_bufs_sub _ _ _ _ _ _ _, StableHlo.unary_bufs_sub _ _ _ _ _, StableHlo.binary_bufs_sub _ _ _ _ _ _ _, StableHlo.unary_bufs_sub _ _ _ _ _, StableHlo.binary_bufs_sub _ _ _ _ _ _ _, StableHlo.unary_bufs_sub _ _ _ _ _, StableHlo.unary_bufs_sub _ _ _ _ _, StableHlo.unary_bufs_sub _ _ _ _ _, StableHlo.unary_bufs_sub _ _ _ _ _, StableHlo.binary_bufs_sub _ _ _ _ _ _ _, StableHlo.nullary_bufs_sub _ _ _, StableHlo.nullary_bufs_sub _ _ _, StableHlo.nullary_bufs_sub _ _ _, StableHlo.quaternary_bufs_sub .., StableHlo.quaternary_bufs_sub ..⟩
theorem pick_fresh : (pickOps (F := F)).Forall fun op => op.fresh = ∅ := StableHlo.forall_fresh_of_map rfl

/-! ## The program is these lists in order -/

set_option maxRecDepth 100000
set_option maxHeartbeats 4000000

theorem part0_eq (c : Dev nD) : main_part0 (F := F) c = seq (logitsOps ++ (softmaxOps ++ (orderOps ++ (rankedOps ++ (keptOps ++
    (unorderOps ++ (unrankedOps ++ seedsAOps))))))) := rfl

theorem part1_eq (c : Dev nD) : main_part1 (F := F) c = seq (seedsBOps ++ (words0Ops ++ (words1Ops ++ (words2Ops ++
    (words3Ops ++ pickOps))))) := rfl

theorem main_eq (c : Dev nD) : main (F := F) c = seq ((logitsOps ++ (softmaxOps ++ (orderOps ++ (rankedOps ++ (keptOps ++
    (unorderOps ++ (unrankedOps ++ seedsAOps))))))) ++ (seedsBOps ++ (words0Ops ++ (words1Ops ++ (words2Ops ++
    (words3Ops ++ pickOps)))))) := by
  rw [seq_append, ← part0_eq c, ← part1_eq c]
  rfl

end Cert.ReferenceIdeal.Hand

end
-- ==== Proof.Ref.Vals.lean ====
/-
  What each stretch of the reference's operations leaves in its result, as a function of the buffers the stretch reads.
-/
module

public import proofs.«01_k».proof.Proof.Ref.Ops
public import Idealize.ShloMosaic.Lib.StableHlo.RunRead

@[expose] public section

noncomputable section

namespace Cert.ReferenceIdeal.Hand

open Idealize.ShloMosaic Idealize.ShloMosaic.TcCoe Idealize.SL.Sem Cert.ReferenceIdeal
open Idealize.ShloMosaic.StableHlo (seq after tcRefs)
open Facts₀ Facts

variable {F : FTy → Type} [FloatOps F]

set_option maxHeartbeats 1000000

/-- The logits, from the embedding, the hidden states, the position and the bias. -/
def logitsF (arg2 : (⟨S1, .i32⟩ : BufTy).Contents (Elt F)) (arg1 : (⟨S128x16x2048, .f32⟩ : BufTy).Contents (Elt F)) (arg0 : (⟨S100000x2048, .f32⟩ : BufTy).Contents (Elt F)) (arg6 : (⟨S100000, .f32⟩ : BufTy).Contents (Elt F)) : (⟨S128x100000, .f32⟩ : BufTy).Contents (Elt F) :=
  let c0_c : (⟨S_, .i32⟩ : BufTy).Contents (Elt F) := (constantI S_ 32 0#32)
  let c0_v0 : (⟨S1, .i32⟩ : BufTy).Contents (Elt F) := (broadcastInDim S1 ![] bcast_S_S1) c0_c
  let c0_v1 : (⟨S1, .i1⟩ : BufTy).Contents (Elt F) := (cmpi .slt) arg2 c0_v0
  let c0_c_0 : (⟨S_, .i32⟩ : BufTy).Contents (Elt F) := (constantI S_ 32 16#32)
  let c0_v2 : (⟨S1, .i32⟩ : BufTy).Contents (Elt F) := (broadcastInDim S1 ![] bcast_S_S1) c0_c_0
  let c0_v3 : (⟨S1, .i32⟩ : BufTy).Contents (Elt F) := addi arg2 c0_v2
  let c0_v4 : (⟨S1, .i32⟩ : BufTy).Contents (Elt F) := select c0_v1 c0_v3 arg2
  let c0_v5 : (⟨S1x1, .i32⟩ : BufTy).Contents (Elt F) := (broadcastInDim S1x1 ![0] bcast_S1_S1x1_0) c0_v4
  let c0_c_1 : (⟨S1, .i32⟩ : BufTy).Contents (Elt F) := (constantI S1 32 15#32)
  let c0_c_2 : (⟨S_, .i32⟩ : BufTy).Contents (Elt F) := (constantI S_ 32 0#32)
  let c0_v6 : (⟨S1x1, .i32⟩ : BufTy).Contents (Elt F) := (broadcastInDim S1x1 ![] bcast_S_S1x1) c0_c_2
  let c0_v7 : (⟨S1x1, .i1⟩ : BufTy).Contents (Elt F) := (cmpi .sge) c0_v5 c0_v6
  let c0_v8 : (⟨S1x1, .i32⟩ : BufTy).Contents (Elt F) := (broadcastInDim S1x1 ![1] bcast_S1_S1x1_1) c0_c_1
  let c0_v9 : (⟨S1x1, .i1⟩ : BufTy).Contents (Elt F) := (cmpi .sle) c0_v5 c0_v8
  let c0_v10 : (⟨S1x1, .i1⟩ : BufTy).Contents (Elt F) := andi c0_v7 c0_v9
  let c0_c_3 : (⟨S_, .i1⟩ : BufTy).Contents (Elt F) := (constantI S_ 1 1#1)
  let c0_v11 : (⟨S1, .i1⟩ : BufTy).Contents (Elt F) := (fun x v => Host.reduce IntOp.andi x v reducesTo_S1x1_S1_d1 h_S_) c0_v10 c0_c_3
  let c0_v12 : (⟨S128x1x2048, .f32⟩ : BufTy).Contents (Elt F) := (fun x i => Host.gather gather_S128x16x2048_S1x1_S128x1x2048_02_1_n_n_1_1_12812048 x i) arg1 c0_v5
  let c0_v13 : (⟨S128x1x2048, .i1⟩ : BufTy).Contents (Elt F) := (broadcastInDim S128x1x2048 ![1] bcast_S1_S128x1x2048_1) c0_v11
  let c0_cst : (⟨S_, .f32⟩ : BufTy).Contents (Elt F) := (constant S_ .f32 0x7FC00000#32)
  let c0_v14 : (⟨S128x1x2048, .f32⟩ : BufTy).Contents (Elt F) := (broadcastInDim S128x1x2048 ![] bcast_S_S128x1x2048) c0_cst
  let v0 : (⟨S128x1x2048, .f32⟩ : BufTy).Contents (Elt F) := select c0_v13 c0_v12 c0_v14
  let v1 : (⟨S128x2048, .f32⟩ : BufTy).Contents (Elt F) := shapeCast _ v0 shapeCasts_S128x1x2048_S128x2048
  let v2 : (⟨S2048x100000, .f32⟩ : BufTy).Contents (Elt F) := (transpose S2048x100000 [1, 0] · transposes_S100000x2048_S2048x100000_1_0) arg0
  let v3 : (⟨S128x100000, .f32⟩ : BufTy).Contents (Elt F) := (fun l r => Host.dotGeneral dot_S128x2048_S2048x100000_S128x100000_1_0_0_1_n_n none l r) v1 v2
  let v4 : (⟨S1x100000, .f32⟩ : BufTy).Contents (Elt F) := broadcastInDim S1x100000 ![1] bcast_S100000_S1x100000_1 arg6
  let v5 : (⟨S128x100000, .f32⟩ : BufTy).Contents (Elt F) := broadcastInDim S128x100000 ![0, 1] bcast_S1x100000_S128x100000_0_1 v4
  let v6 : (⟨S128x100000, .f32⟩ : BufTy).Contents (Elt F) := addf v3 v5
  v6

theorem logitsF_eq (V : Valuation τ sig (Elt F)) : after logitsOps V (no_index (Proc.devRef .tc main_v6)) = logitsF (V (Proc.devRef .tc main_arg2)) (V (Proc.devRef .tc main_arg1)) (V (Proc.devRef .tc main_arg0)) (V (Proc.devRef .tc main_arg6)) := by
  unfold logitsOps
  after_reads_simp
  rfl

/-- The probabilities, from the temperature and the logits. -/
def probsF (arg3 : (⟨S128, .f32⟩ : BufTy).Contents (Elt F)) (v6 : (⟨S128x100000, .f32⟩ : BufTy).Contents (Elt F)) : (⟨S128x100000, .f32⟩ : BufTy).Contents (Elt F) :=
  let v7 : (⟨S128x1, .f32⟩ : BufTy).Contents (Elt F) := broadcastInDim S128x1 ![0] bcast_S128_S128x1_0 arg3
  let v8 : (⟨S128x100000, .f32⟩ : BufTy).Contents (Elt F) := broadcastInDim S128x100000 ![0, 1] bcast_S128x1_S128x100000_0_1 v7
  let v9 : (⟨S128x100000, .f32⟩ : BufTy).Contents (Elt F) := Host.divf v6 v8
  let cst : (⟨S_, .f32⟩ : BufTy).Contents (Elt F) := (constant S_ .f32 0xFF800000#32)
  let v10 : (⟨S128, .f32⟩ : BufTy).Contents (Elt F) := (fun x v => Host.reduce FloatOps.maximumf x v reducesTo_S128x100000_S128_d1 h_S_) v9 cst
  let cst_0 : (⟨S_, .f32⟩ : BufTy).Contents (Elt F) := (constant S_ .f32 0xFF800000#32)
  let v11 : (⟨S128, .f32⟩ : BufTy).Contents (Elt F) := broadcastInDim S128 ![] bcast_S_S128 cst_0
  let v12 : (⟨S128, .f32⟩ : BufTy).Contents (Elt F) := maximumf v11 v10
  let v13 : (⟨S128x1, .f32⟩ : BufTy).Contents (Elt F) := broadcastInDim S128x1 ![0] bcast_S128_S128x1_0 v12
  let v14 : (⟨S128x100000, .f32⟩ : BufTy).Contents (Elt F) := broadcastInDim S128x100000 ![0, 1] bcast_S128x1_S128x100000_0_1 v13
  let v15 : (⟨S128x100000, .f32⟩ : BufTy).Contents (Elt F) := subf v9 v14
  let v16 : (⟨S128x100000, .f32⟩ : BufTy).Contents (Elt F) := Host.exp v15
  let cst_1 : (⟨S_, .f32⟩ : BufTy).Contents (Elt F) := (constant S_ .f32 0x00000000#32)
  let v17 : (⟨S128, .f32⟩ : BufTy).Contents (Elt F) := (fun x v => Host.reduceAdd x v reducesTo_S128x100000_S128_d1 h_S_) v16 cst_1
  let v18 : (⟨S128x1, .f32⟩ : BufTy).Contents (Elt F) := broadcastInDim S128x1 ![0] bcast_S128_S128x1_0 v17
  let v19 : (⟨S128x100000, .f32⟩ : BufTy).Contents (Elt F) := broadcastInDim S128x100000 ![0, 1] bcast_S128x1_S128x100000_0_1 v18
  let v20 : (⟨S128x100000, .f32⟩ : BufTy).Contents (Elt F) := Host.divf v16 v19
  v20

theorem probsF_eq (V : Valuation τ sig (Elt F)) : after softmaxOps V (no_index (Proc.devRef .tc main_v20)) = probsF (V (Proc.devRef .tc main_arg3)) (V (Proc.devRef .tc main_v6)) := by
  unfold softmaxOps
  after_reads_simp
  rfl

/-- The negated probabilities. -/
def negF (arg3 : (⟨S128, .f32⟩ : BufTy).Contents (Elt F)) (v6 : (⟨S128x100000, .f32⟩ : BufTy).Contents (Elt F)) : (⟨S128x100000, .f32⟩ : BufTy).Contents (Elt F) :=
  let v7 : (⟨S128x1, .f32⟩ : BufTy).Contents (Elt F) := broadcastInDim S128x1 ![0] bcast_S128_S128x1_0 arg3
  let v8 : (⟨S128x100000, .f32⟩ : BufTy).Contents (Elt F) := broadcastInDim S128x100000 ![0, 1] bcast_S128x1_S128x100000_0_1 v7
  let v9 : (⟨S128x100000, .f32⟩ : BufTy).Contents (Elt F) := Host.divf v6 v8
  let cst : (⟨S_, .f32⟩ : BufTy).Contents (Elt F) := (constant S_ .f32 0xFF800000#32)
  let v10 : (⟨S128, .f32⟩ : BufTy).Contents (Elt F) := (fun x v => Host.reduce FloatOps.maximumf x v reducesTo_S128x100000_S128_d1 h_S_) v9 cst
  let cst_0 : (⟨S_, .f32⟩ : BufTy).Contents (Elt F) := (constant S_ .f32 0xFF800000#32)
  let v11 : (⟨S128, .f32⟩ : BufTy).Contents (Elt F) := broadcastInDim S128 ![] bcast_S_S128 cst_0
  let v12 : (⟨S128, .f32⟩ : BufTy).Contents (Elt F) := maximumf v11 v10
  let v13 : (⟨S128x1, .f32⟩ : BufTy).Contents (Elt F) := broadcastInDim S128x1 ![0] bcast_S128_S128x1_0 v12
  let v14 : (⟨S128x100000, .f32⟩ : BufTy).Contents (Elt F) := broadcastInDim S128x100000 ![0, 1] bcast_S128x1_S128x100000_0_1 v13
  let v15 : (⟨S128x100000, .f32⟩ : BufTy).Contents (Elt F) := subf v9 v14
  let v16 : (⟨S128x100000, .f32⟩ : BufTy).Contents (Elt F) := Host.exp v15
  let cst_1 : (⟨S_, .f32⟩ : BufTy).Contents (Elt F) := (constant S_ .f32 0x00000000#32)
  let v17 : (⟨S128, .f32⟩ : BufTy).Contents (Elt F) := (fun x v => Host.reduceAdd x v reducesTo_S128x100000_S128_d1 h_S_) v16 cst_1
  let v18 : (⟨S128x1, .f32⟩ : BufTy).Contents (Elt F) := broadcastInDim S128x1 ![0] bcast_S128_S128x1_0 v17
  let v19 : (⟨S128x100000, .f32⟩ : BufTy).Contents (Elt F) := broadcastInDim S128x100000 ![0, 1] bcast_S128x1_S128x100000_0_1 v18
  let v20 : (⟨S128x100000, .f32⟩ : BufTy).Contents (Elt F) := Host.divf v16 v19
  let v21 : (⟨S128x100000, .f32⟩ : BufTy).Contents (Elt F) := Host.negf v20
  v21

theorem negF_eq (V : Valuation τ sig (Elt F)) : after softmaxOps V (no_index (Proc.devRef .tc main_v21)) = negF (V (Proc.devRef .tc main_arg3)) (V (Proc.devRef .tc main_v6)) := by
  unfold softmaxOps
  after_reads_simp
  rfl

/-- Where the stable sort of the keys takes each rank from. -/
def orderF (v21 : (⟨S128x100000, .f32⟩ : BufTy).Contents (Elt F)) : (⟨S128x100000, .i32⟩ : BufTy).Contents (Elt F) :=
  let c1_v0 : (⟨S128x100000, .i32⟩ : BufTy).Contents (Elt F) := (iotaInDim S128x100000 32 1)
  let v22 : (⟨S128x100000, .i32⟩ : BufTy).Contents (Elt F) := (fun x y => (Host.sort2 S128x100000 1 comparator_f32_i32_d1 x y).2) v21 c1_v0
  v22

theorem orderF_eq (V : Valuation τ sig (Elt F)) : after orderOps V (no_index (Proc.devRef .tc main_v22)) = orderF (V (Proc.devRef .tc main_v21)) := by
  unfold orderOps
  after_reads_simp
  rfl

/-- The probabilities taken at the order. -/
def rankedF (v22 : (⟨S128x100000, .i32⟩ : BufTy).Contents (Elt F)) (v20 : (⟨S128x100000, .f32⟩ : BufTy).Contents (Elt F)) : (⟨S128x100000, .f32⟩ : BufTy).Contents (Elt F) :=
  let c2_c : (⟨S_, .i32⟩ : BufTy).Contents (Elt F) := (constantI S_ 32 0#32)
  let c2_v0 : (⟨S128x100000, .i32⟩ : BufTy).Contents (Elt F) := (broadcastInDim S128x100000 ![] bcast_S_S128x100000) c2_c
  let c2_v1 : (⟨S128x100000, .i1⟩ : BufTy).Contents (Elt F) := (cmpi .slt) v22 c2_v0
  let c2_c_0 : (⟨S_, .i32⟩ : BufTy).Contents (Elt F) := (constantI S_ 32 100000#32)
  let c2_v2 : (⟨S128x100000, .i32⟩ : BufTy).Contents (Elt F) := (broadcastInDim S128x100000 ![] bcast_S_S128x100000) c2_c_0
  let c2_v3 : (⟨S128x100000, .i32⟩ : BufTy).Contents (Elt F) := addi v22 c2_v2
  let c2_v4 : (⟨S128x100000, .i32⟩ : BufTy).Contents (Elt F) := select c2_v1 c2_v3 v22
  let c2_v5 : (⟨S128x100000x1, .i32⟩ : BufTy).Contents (Elt F) := shapeCast _ c2_v4 shapeCasts_S128x100000_S128x100000x1
  let c2_c_1 : (⟨S1, .i32⟩ : BufTy).Contents (Elt F) := (constantI S1 32 99999#32)
  let c2_c_2 : (⟨S_, .i32⟩ : BufTy).Contents (Elt F) := (constantI S_ 32 0#32)
  let c2_v6 : (⟨S128x100000x1, .i32⟩ : BufTy).Contents (Elt F) := (broadcastInDim S128x100000x1 ![] bcast_S_S128x100000x1) c2_c_2
  let c2_v7 : (⟨S128x100000x1, .i1⟩ : BufTy).Contents (Elt F) := (cmpi .sge) c2_v5 c2_v6
  let c2_v8 : (⟨S1x1x1, .i32⟩ : BufTy).Contents (Elt F) := (broadcastInDim S1x1x1 ![2] bcast_S1_S1x1x1_2) c2_c_1
  let c2_v9 : (⟨S128x100000x1, .i32⟩ : BufTy).Contents (Elt F) := (broadcastInDim S128x100000x1 ![0, 1, 2] bcast_S1x1x1_S128x100000x1_0_1_2) c2_v8
  let c2_v10 : (⟨S128x100000x1, .i1⟩ : BufTy).Contents (Elt F) := (cmpi .sle) c2_v5 c2_v9
  let c2_v11 : (⟨S128x100000x1, .i1⟩ : BufTy).Contents (Elt F) := andi c2_v7 c2_v10
  let c2_c_3 : (⟨S_, .i1⟩ : BufTy).Contents (Elt F) := (constantI S_ 1 1#1)
  let c2_v12 : (⟨S128x100000, .i1⟩ : BufTy).Contents (Elt F) := (fun x v => Host.reduce IntOp.andi x v reducesTo_S128x100000x1_S128x100000_d2 h_S_) c2_v11 c2_c_3
  let c2_v13 : (⟨S128x100000, .f32⟩ : BufTy).Contents (Elt F) := (fun x i => Host.gather gather_S128x100000_S128x100000x1_S128x100000_n_1_0_0_1_2_11 x i) v20 c2_v5
  let c2_cst : (⟨S_, .f32⟩ : BufTy).Contents (Elt F) := (constant S_ .f32 0x7FC00000#32)
  let c2_v14 : (⟨S128x100000, .f32⟩ : BufTy).Contents (Elt F) := (broadcastInDim S128x100000 ![] bcast_S_S128x100000) c2_cst
  let v23 : (⟨S128x100000, .f32⟩ : BufTy).Contents (Elt F) := select c2_v12 c2_v13 c2_v14
  v23

theorem rankedF_eq (V : Valuation τ sig (Elt F)) : after rankedOps V (no_index (Proc.devRef .tc main_v23)) = rankedF (V (Proc.devRef .tc main_v22)) (V (Proc.devRef .tc main_v20)) := by
  unfold rankedOps
  after_reads_simp
  simp only [StableHlo.TRef.toBuf, StableHlo.TRef.ofBuf, cast_eq, eqRec_eq_cast, rankedF]
  rfl

/-- The ranked probabilities after the two masks, divided by their sum. -/
def keptF (v23 : (⟨S128x100000, .f32⟩ : BufTy).Contents (Elt F)) (arg4 : (⟨S128, .f32⟩ : BufTy).Contents (Elt F)) : (⟨S128x100000, .f32⟩ : BufTy).Contents (Elt F) :=
  let c3_c0_cst : (⟨S_, .f32⟩ : BufTy).Contents (Elt F) := (constant S_ .f32 0x00000000#32)
  let c3_c0_v0 : (⟨S_, .f32⟩ : BufTy).Contents (Elt F) := (broadcastInDim S_ ![] bcast_S_S_) c3_c0_cst
  let v24 : (⟨S128x100000, .f32⟩ : BufTy).Contents (Elt F) := (fun x v => Host.reduceWindowAdd ![1, 100000] ![1, 1] ![0, 99999] ![0, 0] x v reduceWindows_S128x100000_S128x100000_w1s1p0_0_w100000s1p99999_0 h_S_) v23 c3_c0_v0
  let v25 : (⟨S128x100000, .f32⟩ : BufTy).Contents (Elt F) := subf v24 v23
  let v26 : (⟨S128x1, .f32⟩ : BufTy).Contents (Elt F) := broadcastInDim S128x1 ![0] bcast_S128_S128x1_0 arg4
  let v27 : (⟨S128x100000, .f32⟩ : BufTy).Contents (Elt F) := broadcastInDim S128x100000 ![0, 1] bcast_S128x1_S128x100000_0_1 v26
  let v28 : (⟨S128x100000, .i1⟩ : BufTy).Contents (Elt F) := cmpf .ogt v25 v27
  let cst_2 : (⟨S_, .f32⟩ : BufTy).Contents (Elt F) := (constant S_ .f32 0x00000000#32)
  let c4_v0 : (⟨S_, .f32⟩ : BufTy).Contents (Elt F) := id cst_2
  let c4_v1 : (⟨S128x100000, .f32⟩ : BufTy).Contents (Elt F) := (broadcastInDim S128x100000 ![] bcast_S_S128x100000) c4_v0
  let v29 : (⟨S128x100000, .f32⟩ : BufTy).Contents (Elt F) := select v28 c4_v1 v23
  let v30 : (⟨S100000, .i32⟩ : BufTy).Contents (Elt F) := (iotaInDim S100000 32 0)
  let v31 : (⟨S128x100000, .i32⟩ : BufTy).Contents (Elt F) := broadcastInDim S128x100000 ![1] bcast_S100000_S128x100000_1 v30
  let c : (⟨S_, .i32⟩ : BufTy).Contents (Elt F) := (constantI S_ 32 0#32)
  let v36 : (⟨S128x100000, .i32⟩ : BufTy).Contents (Elt F) := broadcastInDim S128x100000 ![] bcast_S_S128x100000 c
  let v37 : (⟨S128x100000, .i1⟩ : BufTy).Contents (Elt F) := cmpi .ne v31 v36
  let cst_3 : (⟨S_, .f32⟩ : BufTy).Contents (Elt F) := (constant S_ .f32 0x00000000#32)
  let c5_v0 : (⟨S_, .f32⟩ : BufTy).Contents (Elt F) := id cst_3
  let c5_v1 : (⟨S128x100000, .f32⟩ : BufTy).Contents (Elt F) := (broadcastInDim S128x100000 ![] bcast_S_S128x100000) c5_v0
  let v38 : (⟨S128x100000, .f32⟩ : BufTy).Contents (Elt F) := select v37 c5_v1 v29
  let cst_4 : (⟨S_, .f32⟩ : BufTy).Contents (Elt F) := (constant S_ .f32 0x00000000#32)
  let v39 : (⟨S128, .f32⟩ : BufTy).Contents (Elt F) := (fun x v => Host.reduceAdd x v reducesTo_S128x100000_S128_d1 h_S_) v38 cst_4
  let v40 : (⟨S128x1, .f32⟩ : BufTy).Contents (Elt F) := broadcastInDim S128x1 ![0] bcast_S128_S128x1_0 v39
  let v41 : (⟨S128x100000, .f32⟩ : BufTy).Contents (Elt F) := broadcastInDim S128x100000 ![0, 1] bcast_S128x1_S128x100000_0_1 v40
  let v42 : (⟨S128x100000, .f32⟩ : BufTy).Contents (Elt F) := Host.divf v38 v41
  v42

theorem keptF_eq (V : Valuation τ sig (Elt F)) : after keptOps V (no_index (Proc.devRef .tc main_v42)) = keptF (V (Proc.devRef .tc main_v23)) (V (Proc.devRef .tc main_arg4)) := by
  unfold keptOps
  after_reads_simp
  rfl

/-- Where the stable sort of the order takes each place from. -/
def unorderF (v22 : (⟨S128x100000, .i32⟩ : BufTy).Contents (Elt F)) : (⟨S128x100000, .i32⟩ : BufTy).Contents (Elt F) :=
  let c6_v0 : (⟨S128x100000, .i32⟩ : BufTy).Contents (Elt F) := (iotaInDim S128x100000 32 1)
  let v43 : (⟨S128x100000, .i32⟩ : BufTy).Contents (Elt F) := (fun x y => (Host.sort2 S128x100000 1 comparator_i32_i32_d1 x y).2) v22 c6_v0
  v43

theorem unorderF_eq (V : Valuation τ sig (Elt F)) : after unorderOps V (no_index (Proc.devRef .tc main_v43)) = unorderF (V (Proc.devRef .tc main_v22)) := by
  unfold unorderOps
  after_reads_simp
  rfl

/-- What is kept, taken at the inverse order. -/
def unrankedF (v43 : (⟨S128x100000, .i32⟩ : BufTy).Contents (Elt F)) (v42 : (⟨S128x100000, .f32⟩ : BufTy).Contents (Elt F)) : (⟨S128x100000, .f32⟩ : BufTy).Contents (Elt F) :=
  let c7_c : (⟨S_, .i32⟩ : BufTy).Contents (Elt F) := (constantI S_ 32 0#32)
  let c7_v0 : (⟨S128x100000, .i32⟩ : BufTy).Contents (Elt F) := (broadcastInDim S128x100000 ![] bcast_S_S128x100000) c7_c
  let c7_v1 : (⟨S128x100000, .i1⟩ : BufTy).Contents (Elt F) := (cmpi .slt) v43 c7_v0
  let c7_c_0 : (⟨S_, .i32⟩ : BufTy).Contents (Elt F) := (constantI S_ 32 100000#32)
  let c7_v2 : (⟨S128x100000, .i32⟩ : BufTy).Contents (Elt F) := (broadcastInDim S128x100000 ![] bcast_S_S128x100000) c7_c_0
  let c7_v3 : (⟨S128x100000, .i32⟩ : BufTy).Contents (Elt F) := addi v43 c7_v2
  let c7_v4 : (⟨S128x100000, .i32⟩ : BufTy).Contents (Elt F) := select c7_v1 c7_v3 v43
  let c7_v5 : (⟨S128x100000x1, .i32⟩ : BufTy).Contents (Elt F) := shapeCast _ c7_v4 shapeCasts_S128x100000_S128x100000x1
  let c7_c_1 : (⟨S1, .i32⟩ : BufTy).Contents (Elt F) := (constantI S1 32 99999#32)
  let c7_c_2 : (⟨S_, .i32⟩ : BufTy).Contents (Elt F) := (constantI S_ 32 0#32)
  let c7_v6 : (⟨S128x100000x1, .i32⟩ : BufTy).Contents (Elt F) := (broadcastInDim S128x100000x1 ![] bcast_S_S128x100000x1) c7_c_2
  let c7_v7 : (⟨S128x100000x1, .i1⟩ : BufTy).Contents (Elt F) := (cmpi .sge) c7_v5 c7_v6
  let c7_v8 : (⟨S1x1x1, .i32⟩ : BufTy).Contents (Elt F) := (broadcastInDim S1x1x1 ![2] bcast_S1_S1x1x1_2) c7_c_1
  let c7_v9 : (⟨S128x100000x1, .i32⟩ : BufTy).Contents (Elt F) := (broadcastInDim S128x100000x1 ![0, 1, 2] bcast_S1x1x1_S128x100000x1_0_1_2) c7_v8
  let c7_v10 : (⟨S128x100000x1, .i1⟩ : BufTy).Contents (Elt F) := (cmpi .sle) c7_v5 c7_v9
  let c7_v11 : (⟨S128x100000x1, .i1⟩ : BufTy).Contents (Elt F) := andi c7_v7 c7_v10
  let c7_c_3 : (⟨S_, .i1⟩ : BufTy).Contents (Elt F) := (constantI S_ 1 1#1)
  let c7_v12 : (⟨S128x100000, .i1⟩ : BufTy).Contents (Elt F) := (fun x v => Host.reduce IntOp.andi x v reducesTo_S128x100000x1_S128x100000_d2 h_S_) c7_v11 c7_c_3
  let c7_v13 : (⟨S128x100000, .f32⟩ : BufTy).Contents (Elt F) := (fun x i => Host.gather gather_S128x100000_S128x100000x1_S128x100000_n_1_0_0_1_2_11 x i) v42 c7_v5
  let c7_cst : (⟨S_, .f32⟩ : BufTy).Contents (Elt F) := (constant S_ .f32 0x7FC00000#32)
  let c7_v14 : (⟨S128x100000, .f32⟩ : BufTy).Contents (Elt F) := (broadcastInDim S128x100000 ![] bcast_S_S128x100000) c7_cst
  let v44 : (⟨S128x100000, .f32⟩ : BufTy).Contents (Elt F) := select c7_v12 c7_v13 c7_v14
  v44

theorem unrankedF_eq (V : Valuation τ sig (Elt F)) : after unrankedOps V (no_index (Proc.devRef .tc main_v44)) = unrankedF (V (Proc.devRef .tc main_v43)) (V (Proc.devRef .tc main_v42)) := by
  unfold unrankedOps
  after_reads_simp
  simp only [StableHlo.TRef.toBuf, StableHlo.TRef.ofBuf, cast_eq, eqRec_eq_cast, unrankedF]
  rfl

/-- The log of the probabilities after adding the guard. -/
def logF (v44 : (⟨S128x100000, .f32⟩ : BufTy).Contents (Elt F)) : (⟨S128x100000, .f32⟩ : BufTy).Contents (Elt F) :=
  let cst_8 : (⟨S_, .f32⟩ : BufTy).Contents (Elt F) := (constant S_ .f32 0x0DA24260#32)
  let v52 : (⟨S128x100000, .f32⟩ : BufTy).Contents (Elt F) := broadcastInDim S128x100000 ![] bcast_S_S128x100000 cst_8
  let v53 : (⟨S128x100000, .f32⟩ : BufTy).Contents (Elt F) := addf v44 v52
  let v54 : (⟨S128x100000, .f32⟩ : BufTy).Contents (Elt F) := Host.log v53
  v54

theorem logF_eq (V : Valuation τ sig (Elt F)) : after seedsBOps V (no_index (Proc.devRef .tc main_v54)) = logF (V (Proc.devRef .tc main_v44)) := by
  unfold seedsBOps
  after_reads_simp
  rfl

/-- The low end of the uniform draw. -/
def lowF  : (⟨S1x1, .f32⟩ : BufTy).Contents (Elt F) :=
  let c8_cst_0 : (⟨S_, .f32⟩ : BufTy).Contents (Elt F) := (constant S_ .f32 0x00800000#32)
  let c8_c0_v1 : (⟨S1x1, .f32⟩ : BufTy).Contents (Elt F) := (broadcastInDim S1x1 ![] bcast_S_S1x1) c8_cst_0
  c8_c0_v1

theorem lowF_eq (V : Valuation τ sig (Elt F)) : after seedsBOps V (no_index (Proc.devRef .tc main_call8_call0_v1)) = lowF  := by
  unfold seedsBOps
  after_reads_simp
  rfl

/-- The high end of the uniform draw. -/
def highF  : (⟨S1x1, .f32⟩ : BufTy).Contents (Elt F) :=
  let c8_cst : (⟨S_, .f32⟩ : BufTy).Contents (Elt F) := (constant S_ .f32 0x3F800000#32)
  let c8_c0_v0 : (⟨S_, .f32⟩ : BufTy).Contents (Elt F) := id c8_cst
  let c8_c0_v2 : (⟨S1x1, .f32⟩ : BufTy).Contents (Elt F) := (broadcastInDim S1x1 ![] bcast_S_S1x1) c8_c0_v0
  c8_c0_v2

theorem highF_eq (V : Valuation τ sig (Elt F)) : after seedsBOps V (no_index (Proc.devRef .tc main_call8_call0_v2)) = highF  := by
  unfold seedsBOps
  after_reads_simp
  rfl

/-- The index of the largest of the noisy logs, from the random words. -/
def pickF (c8_c0_v18_0 : (⟨S128x100000, .i32⟩ : BufTy).Contents (Elt F)) (c8_c0_v18_1 : (⟨S128x100000, .i32⟩ : BufTy).Contents (Elt F)) (c8_c0_v2 : (⟨S1x1, .f32⟩ : BufTy).Contents (Elt F)) (c8_c0_v1 : (⟨S1x1, .f32⟩ : BufTy).Contents (Elt F)) (v54 : (⟨S128x100000, .f32⟩ : BufTy).Contents (Elt F)) : (⟨S128, .i32⟩ : BufTy).Contents (Elt F) :=
  let c8_c0_v19 : (⟨S128x100000, .i32⟩ : BufTy).Contents (Elt F) := xori c8_c0_v18_0 c8_c0_v18_1
  let c8_c0_c_2 : (⟨S_, .i32⟩ : BufTy).Contents (Elt F) := (constantI S_ 32 9#32)
  let c8_c0_v20 : (⟨S128x100000, .i32⟩ : BufTy).Contents (Elt F) := (broadcastInDim S128x100000 ![] bcast_S_S128x100000) c8_c0_c_2
  let c8_c0_v21 : (⟨S128x100000, .i32⟩ : BufTy).Contents (Elt F) := Host.shrui c8_c0_v19 c8_c0_v20
  let c8_c0_c_3 : (⟨S_, .i32⟩ : BufTy).Contents (Elt F) := (constantI S_ 32 1065353216#32)
  let c8_c0_v22 : (⟨S128x100000, .i32⟩ : BufTy).Contents (Elt F) := (broadcastInDim S128x100000 ![] bcast_S_S128x100000) c8_c0_c_3
  let c8_c0_v23 : (⟨S128x100000, .i32⟩ : BufTy).Contents (Elt F) := ori c8_c0_v21 c8_c0_v22
  let c8_c0_v24 : (⟨S128x100000, .f32⟩ : BufTy).Contents (Elt F) := (bitcastToFloat (F := F) .f32) c8_c0_v23
  let c8_c0_cst : (⟨S_, .f32⟩ : BufTy).Contents (Elt F) := (constant S_ .f32 0x3F800000#32)
  let c8_c0_v25 : (⟨S128x100000, .f32⟩ : BufTy).Contents (Elt F) := (broadcastInDim S128x100000 ![] bcast_S_S128x100000) c8_c0_cst
  let c8_c0_v26 : (⟨S128x100000, .f32⟩ : BufTy).Contents (Elt F) := subf c8_c0_v24 c8_c0_v25
  let c8_c0_v27 : (⟨S1x1, .f32⟩ : BufTy).Contents (Elt F) := subf c8_c0_v2 c8_c0_v1
  let c8_c0_v28 : (⟨S128x100000, .f32⟩ : BufTy).Contents (Elt F) := (broadcastInDim S128x100000 ![0, 1] bcast_S1x1_S128x100000_0_1) c8_c0_v27
  let c8_c0_v29 : (⟨S128x100000, .f32⟩ : BufTy).Contents (Elt F) := mulf c8_c0_v26 c8_c0_v28
  let c8_c0_v30 : (⟨S128x100000, .f32⟩ : BufTy).Contents (Elt F) := (broadcastInDim S128x100000 ![0, 1] bcast_S1x1_S128x100000_0_1) c8_c0_v1
  let c8_c0_v31 : (⟨S128x100000, .f32⟩ : BufTy).Contents (Elt F) := addf c8_c0_v29 c8_c0_v30
  let c8_c0_v32 : (⟨S128x100000, .f32⟩ : BufTy).Contents (Elt F) := (broadcastInDim S128x100000 ![0, 1] bcast_S1x1_S128x100000_0_1) c8_c0_v1
  let c8_v0 : (⟨S128x100000, .f32⟩ : BufTy).Contents (Elt F) := maximumf c8_c0_v32 c8_c0_v31
  let c8_v1 : (⟨S128x100000, .f32⟩ : BufTy).Contents (Elt F) := Host.log c8_v0
  let c8_v2 : (⟨S128x100000, .f32⟩ : BufTy).Contents (Elt F) := Host.negf c8_v1
  let c8_v3 : (⟨S128x100000, .f32⟩ : BufTy).Contents (Elt F) := Host.log c8_v2
  let v55 : (⟨S128x100000, .f32⟩ : BufTy).Contents (Elt F) := Host.negf c8_v3
  let v56 : (⟨S128x100000, .f32⟩ : BufTy).Contents (Elt F) := addf v55 v54
  let c9_v0 : (⟨S128x100000, .i32⟩ : BufTy).Contents (Elt F) := (iotaInDim S128x100000 32 1)
  let c9_cst : (⟨S_, .f32⟩ : BufTy).Contents (Elt F) := (constant S_ .f32 0xFF800000#32)
  let c9_c : (⟨S_, .i32⟩ : BufTy).Contents (Elt F) := (constantI S_ 32 0#32)
  let v57 : (⟨S128, .i32⟩ : BufTy).Contents (Elt F) := (fun x y u v j => (Host.argReduce reducer_argmax_f32_i32 x y u v reducesTo_S128x100000_S128_d1 h_S_ j).2) v56 c9_v0 c9_cst c9_c
  v57

theorem pickF_eq (V : Valuation τ sig (Elt F)) : after pickOps V (no_index (Proc.devRef .tc main_v57)) = pickF (V (Proc.devRef .tc main_call8_call0_v18_0)) (V (Proc.devRef .tc main_call8_call0_v18_1)) (V (Proc.devRef .tc main_call8_call0_v2)) (V (Proc.devRef .tc main_call8_call0_v1)) (V (Proc.devRef .tc main_v54)) := by
  unfold pickOps
  after_reads_simp
  rfl

end Cert.ReferenceIdeal.Hand

end
-- ==== Proof.Ref.Rows.lean ====
/-
  Whole-row operations of a two-axis array, at any extents, read at an index: the row's fold and sum, the running sum's
  first column, the arg-max's fiber, the sort along the row, the values taken along the row at given columns.
-/
module

public import Idealize.ShloMosaic.Lib.Pointwise
public import Idealize.ShloMosaic.Lib.ValueIdxCore
public import Idealize.ShloMosaic.PureOps.Reduce

@[expose] public section

noncomputable section

namespace Cert.Rows

open Idealize.ShloMosaic

variable {a b : Nat}

/-- A reduction of the columns is a reduction of one axis. -/
theorem reduces2 (h : (⟨2, ![a, b]⟩ : Shape).ReducesTo [1] ⟨1, ![a]⟩) : (⟨2, ![a, b]⟩ : Shape).Reduces [1] ⟨1, ![a]⟩ :=
  ⟨h.1, Nat.one_pos, h.2⟩

theorem lift2 (h : (⟨2, ![a, b]⟩ : Shape).Reduces [1] ⟨1, ![a]⟩) (s : Fin a) (k : Fin b) : h.lift (ix1 s) k = ix2 s k := by
  funext c
  match c with
  | ⟨0, _⟩ => rfl
  | ⟨1, _⟩ => rfl

/-- A row's fold. -/
theorem fold2 {α : Type} {u : Shape} (f : α → α → α) [Std.Commutative f] [Std.Associative f] (x : (⟨2, ![a, b]⟩ : Shape).Idx → α)
    (init : u.Idx → α) (h : (⟨2, ![a, b]⟩ : Shape).ReducesTo [1] ⟨1, ![a]⟩) (hu : 0 < u.numel) (s : Fin a) :
    Host.reduce f x init h hu (ix1 s) = (Finset.univ : Finset (Fin b)).fold f (init (Shape.Idx.first hu)) fun k => x (ix2 s k) := by
  rw [Host.reduce_eq_fold_single f x init h (reduces2 h) hu]
  exact congrArg (fun g : Fin b → α => (Finset.univ : Finset (Fin b)).fold f (init (Shape.Idx.first hu)) g)
    (funext fun k => congrArg x (lift2 (reduces2 h) s k))

/-- A row's sum. -/
theorem sum2 (x : (⟨2, ![a, b]⟩ : Shape).Idx → EReal) (init : EReal) (h : (⟨2, ![a, b]⟩ : Shape).ReducesTo [1] ⟨1, ![a]⟩) (s : Fin a) :
    Ideal.hostReduceAdd h x init (ix1 s) = init + ∑ k : Fin b, x (ix2 s k) := by
  rw [Ideal.hostReduceAdd_single h (reduces2 h)]
  exact congrArg (init + ·) (Finset.sum_congr rfl fun k _ => congrArg x (lift2 (reduces2 h) s k))

/-- The conjunction over a last axis of extent one. -/
theorem and3 {u : Shape} (x : (⟨3, ![a, b, 1]⟩ : Shape).Idx → BitVec 1) (init : u.Idx → BitVec 1)
    (h : (⟨3, ![a, b, 1]⟩ : Shape).ReducesTo [2] ⟨2, ![a, b]⟩) (hu : 0 < u.numel) (s : Fin a) (j : Fin b) :
    Host.reduce IntOp.andi x init h hu (ix2 s j) = IntOp.andi (x (ix3 s j 0)) (init (Shape.Idx.first hu)) := by
  have h' : (⟨3, ![a, b, 1]⟩ : Shape).Reduces [2] ⟨2, ![a, b]⟩ := ⟨h.1, Nat.two_pos, h.2⟩
  have hl : h'.lift (ix2 s j) (0 : Fin 1) = ix3 s j 0 := by
    funext c
    match c with
    | ⟨0, _⟩ => rfl
    | ⟨1, _⟩ => rfl
    | ⟨2, _⟩ => rfl
  rw [Host.reduce_eq_fold_single IntOp.andi x init h h' hu]
  show (Finset.univ : Finset (Fin 1)).fold IntOp.andi _ (fun k : Fin 1 => x (h'.lift (ix2 s j) k)) = _
  rw [Finset.univ_unique, Finset.fold_singleton]
  exact congrArg (IntOp.andi · _) (congrArg x hl)

/-- The pairs an arg-max over the columns looks at are the row's. -/
theorem mem_fiber2 {α β : Type} (x : (⟨2, ![a, b]⟩ : Shape).Idx → α) (y : (⟨2, ![a, b]⟩ : Shape).Idx → β)
    (h : (⟨2, ![a, b]⟩ : Shape).ReducesTo [1] ⟨1, ![a]⟩) (s : Fin a) (p : α × β) :
    p ∈ Host.argReduceFiber x y h (ix1 s) ↔ ∃ k : Fin b, p = (x (ix2 s k), y (ix2 s k)) := by
  unfold Host.argReduceFiber
  rw [Shape.ReducesTo.drop_eq_drop h (reduces2 h)]
  simp only [List.mem_map, List.mem_filter, List.mem_finRange, true_and, decide_eq_true_eq]
  constructor
  · rintro ⟨n, hn, rfl⟩
    refine ⟨(⟨2, ![a, b]⟩ : Shape).rowMajor.symm n 1, ?_⟩
    have e : (⟨2, ![a, b]⟩ : Shape).rowMajor.symm n = ix2 s ((⟨2, ![a, b]⟩ : Shape).rowMajor.symm n 1) := by
      funext c
      match c with
      | ⟨0, _⟩ => exact Fin.ext (congrArg Fin.val (congrFun hn 0))
      | ⟨1, _⟩ => rfl
    rw [e]
    rfl
  · rintro ⟨k, rfl⟩
    refine ⟨(⟨2, ![a, b]⟩ : Shape).rowMajor (ix2 s k), ?_, ?_⟩
    · rw [Equiv.symm_apply_apply, ← lift2 (reduces2 h)]
      exact (reduces2 h).drop_lift _ _
    · rw [Equiv.symm_apply_apply]

/-- The payload of a sort along the columns. -/
theorem sort2_row {α β : Type} (cmp : α × β → α × β → BitVec 1) (x : (⟨2, ![a, b]⟩ : Shape).Idx → α) (y : (⟨2, ![a, b]⟩ : Shape).Idx → β)
    (s : Fin a) (r : Fin b) :
    (Host.sort2 ⟨2, ![a, b]⟩ 1 cmp x y).2 (ix2 s r)
      = y (ix2 s (sortedFrom (fun k k' => cmp (x (ix2 s k), y (ix2 s k)) (x (ix2 s k'), y (ix2 s k')) == 1#1) r)) := by
  have hal : ∀ k : Fin b, (ix2 s r : (⟨2, ![a, b]⟩ : Shape).Idx).along 1 k = ix2 s k := fun k => by
    funext c
    match c with
    | ⟨0, _⟩ => rfl
    | ⟨1, _⟩ => rfl
  unfold Host.sort2
  rw [dif_pos (show 1 < (⟨2, ![a, b]⟩ : Shape).rank from Nat.one_lt_two)]
  exact congrArg (fun g : Fin b → (⟨2, ![a, b]⟩ : Shape).Idx => y (g (sortedFrom (fun k k' => cmp (x (g k), y (g k)) (x (g k'), y (g k')) == 1#1) r)))
    (funext hal)

/-- A running left fold of sums is the sum. -/
theorem foldl_add {ι : Type} (g : ι → EReal) (l : List ι) (v : EReal) : l.foldl (fun r n => r + g n) v = v + (l.map g).sum := by
  induction l generalizing v with
  | nil => simp
  | cons n l ih => rw [List.foldl_cons, ih, List.map_cons, List.sum_cons, add_assoc]

/-- The running sum along the columns, in column zero: the column itself. -/
theorem window_first {Nm1 N : Nat} (hN : Nm1 + 1 = N) {u : Shape} (x : (⟨2, ![a, N]⟩ : Shape).Idx → EReal)
    (h : (⟨2, ![a, N]⟩ : Shape).ReduceWindows (![1, N] : Fin 2 → Nat) ![1, 1] ![0, Nm1] ![0, 0] ⟨2, ![a, N]⟩) (hu : 0 < u.numel)
    (init : u.Idx → EReal) (hi : init (Shape.Idx.first hu) = 0) (s : Fin a) (z : Fin N) (hz : z.val = 0) :
    Host.reduceWindow (· + ·) (![1, N] : Fin 2 → Nat) ![1, 1] ![0, Nm1] ![0, 0] x init h hu (ix2 s z) = x (ix2 s z) := by
  unfold Host.reduceWindow
  dsimp only
  rw [foldl_add, hi, zero_add, ← Fin.sum_univ_def]
  let W : Shape := ⟨2, ![1, N]⟩
  rw [Finset.sum_eq_single (W.rowMajor (ix2 (0 : Fin 1) (⟨Nm1, by omega⟩ : Fin N)))]
  · have e : W.rowMajor.symm (W.rowMajor (ix2 (0 : Fin 1) (⟨Nm1, by omega⟩ : Fin N))) = ix2 (0 : Fin 1) (⟨Nm1, by omega⟩ : Fin N) := Equiv.symm_apply_apply _ _
    have e0 : (W.rowMajor.symm (W.rowMajor (ix2 (0 : Fin 1) (⟨Nm1, by omega⟩ : Fin N))) 0).val = 0 := by rw [e]; rfl
    have e1 : (W.rowMajor.symm (W.rowMajor (ix2 (0 : Fin 1) (⟨Nm1, by omega⟩ : Fin N))) 1).val = Nm1 := by rw [e]; rfl
    rw [dif_pos]
    · refine congrArg x (funext fun c => Fin.ext ?_)
      match c with
      | ⟨0, _⟩ =>
        show s.val * 1 + (W.rowMajor.symm (W.rowMajor (ix2 (0 : Fin 1) (⟨Nm1, by omega⟩ : Fin N))) 0).val - 0 = s.val
        rw [e0]; omega
      | ⟨1, _⟩ =>
        show z.val * 1 + (W.rowMajor.symm (W.rowMajor (ix2 (0 : Fin 1) (⟨Nm1, by omega⟩ : Fin N))) 1).val - Nm1 = z.val
        rw [e1]; omega
    · intro c
      match c with
      | ⟨0, _⟩ =>
        show 0 ≤ s.val * 1 + (W.rowMajor.symm (W.rowMajor (ix2 (0 : Fin 1) (⟨Nm1, by omega⟩ : Fin N))) 0).val ∧ s.val * 1 + (W.rowMajor.symm (W.rowMajor (ix2 (0 : Fin 1) (⟨Nm1, by omega⟩ : Fin N))) 0).val - 0 < a
        rw [e0]
        have := s.isLt
        omega
      | ⟨1, _⟩ =>
        show Nm1 ≤ z.val * 1 + (W.rowMajor.symm (W.rowMajor (ix2 (0 : Fin 1) (⟨Nm1, by omega⟩ : Fin N))) 1).val ∧ z.val * 1 + (W.rowMajor.symm (W.rowMajor (ix2 (0 : Fin 1) (⟨Nm1, by omega⟩ : Fin N))) 1).val - Nm1 < N
        rw [e1]
        omega
  · intro n _ hn
    rw [dif_neg]
    · intro hin
      apply hn
      have h1 := (hin 1).1
      change Nm1 ≤ z.val * 1 + (W.rowMajor.symm n 1).val at h1
      have h2 : (W.rowMajor.symm n 1).val < N := (W.rowMajor.symm n 1).isLt
      have h3 : (W.rowMajor.symm n 0).val < 1 := (W.rowMajor.symm n 0).isLt
      rw [← Equiv.symm_apply_eq]
      funext c
      match c with
      | ⟨0, _⟩ => exact Fin.ext (show (W.rowMajor.symm n 0).val = 0 by omega)
      | ⟨1, _⟩ => exact Fin.ext (show (W.rowMajor.symm n 1).val = Nm1 by omega)
  · intro hn
    exact absurd (Finset.mem_univ _) hn

/-- Taking along the columns: one column index to a result element, the row a batching axis of both. -/
abbrev takeColsDims (A N B : Nat)
    (wf : GatherDims.WF ⟨2, ![A, N]⟩ ⟨3, ![A, B, 1]⟩ ⟨2, ![A, B]⟩ [] [1] [0] [1] [0] 2 ![1, 1]) :
    GatherDims ⟨2, ![A, N]⟩ ⟨3, ![A, B, 1]⟩ ⟨2, ![A, B]⟩ where
  offsetDims := []
  collapsedSliceDims := [1]
  operandBatchingDims := [0]
  startIndicesBatchingDims := [0]
  startIndexMap := [1]
  indexVectorDim := 2
  sliceSizes := ![1, 1]
  wf := wf

/-- Element `(s, j)`: the operand of row `s` at the column the index names, read signed and clamped. -/
theorem take_cols {α : Type} {A N B w : Nat} (hN : 0 < N)
    (wf : GatherDims.WF ⟨2, ![A, N]⟩ ⟨3, ![A, B, 1]⟩ ⟨2, ![A, B]⟩ [] [1] [0] [1] [0] 2 ![1, 1])
    (x : (⟨2, ![A, N]⟩ : Shape).Idx → α) (idx : IVec ⟨3, ![A, B, 1]⟩ w) (s : Fin A) (j : Fin B) :
    Host.gather (takeColsDims A N B wf) x idx (ix2 s j)
      = x (ix2 s ⟨min (idx (ix3 s j 0)).toInt.toNat (N - 1), by omega⟩) := by
  unfold Host.gather
  congr 1
  funext c
  refine Fin.ext ?_
  show (takeColsDims A N B wf).start (ix2 s j) idx c + (takeColsDims A N B wf).batchCoord (ix2 s j) c
      + (takeColsDims A N B wf).offCoord (ix2 s j) c = _
  have h01 : c = 1 ∨ c = 0 := by
    match c with
    | ⟨0, _⟩ => exact Or.inr rfl
    | ⟨1, _⟩ => exact Or.inl rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColsDims A N B wf).startIndexMap from List.mem_singleton.mpr rfl)]
    have hsi : (takeColsDims A N B wf).siIdx (ix2 s j) ⟨List.idxOf (1 : Fin 2) (takeColsDims A N B wf).startIndexMap,
        List.idxOf_lt_length_iff.2 (List.mem_singleton.mpr rfl)⟩ = ix3 s j 0 := by
      funext b; refine Fin.ext ?_
      match b with
      | ⟨0, _⟩ => rfl
      | ⟨1, _⟩ => rfl
      | ⟨2, _⟩ => rfl
    rw [hsi]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl

end Cert.Rows

end
-- ==== Proof.Ref.Softmax.lean ====
/-
  The reference's probabilities at an index, and their values at real logits and a positive real temperature: positive
  reals in the same order as the logits.
-/
module

public import proofs.«01_k».proof.Proof.Ref.Vals
public import proofs.«01_k».proof.Proof.FirstMax
public import proofs.«01_k».proof.Proof.Ref.Rows
public import Idealize.ShloMosaic.Lib.Pointwise

@[expose] public section

noncomputable section

namespace Cert.ReferenceIdeal.Hand

open Idealize.ShloMosaic Idealize.ShloMosaic.TcCoe Cert.ReferenceIdeal Cert.FirstMax
open Facts₀ Facts

set_option maxRecDepth 16384

/-- One value to a row. -/
abbrev RowT := FVec Ideal S128 .f32
/-- One value to a row and column. -/
abbrev MatT := FVec Ideal S128x100000 .f32

/-- A row vector spread over the columns. -/
def spreadF (T : RowT) : MatT :=
  broadcastInDim S128x100000 ![0, 1] bcast_S128x1_S128x100000_0_1 ((broadcastInDim S128x1 ![0] bcast_S128_S128x1_0 T : FVec Ideal S128x1 .f32))

/-- Each row's maximum, from negative infinity. -/
def topF (x : MatT) : RowT :=
  maximumf (broadcastInDim S128 ![] bcast_S_S128 ((constant S_ .f32 0xFF800000#32) : FVec Ideal S_ .f32))
    (Host.reduce FloatOps.maximumf x ((constant S_ .f32 0xFF800000#32) : FVec Ideal S_ .f32) reducesTo_S128x100000_S128_d1 h_S_)

/-- Each row's sum. -/
def totalF (x : MatT) : RowT :=
  Host.reduceAdd x ((constant S_ .f32 0x00000000#32) : FVec Ideal S_ .f32) reducesTo_S128x100000_S128_d1 h_S_

/-- The exponentials of the logits over the temperature, less the row's maximum. -/
def expsF (T : RowT) (L : MatT) : MatT :=
  Host.exp (subf (Host.divf L (spreadF T)) (spreadF (topF (Host.divf L (spreadF T)))))

theorem probsF_eq' (T : RowT) (L : MatT) : (probsF (F := Ideal) T L : MatT) = Host.divf (expsF T L) (spreadF (totalF (expsF T L))) := rfl

theorem negF_eq' (T : RowT) (L : MatT) : (negF (F := Ideal) T L : MatT) = (fun x : MatT => (Host.negf x : MatT)) (probsF (F := Ideal) T L) := rfl

theorem divf_at (x y : MatT) (i : S128x100000.Idx) : Host.divf x y i = Ideal.div (x i) (y i) := rfl

theorem spreadF_apply (T : RowT) (s : Fin 128) (j : Fin 100000) : spreadF T (ix2 s j) = T (ix1 s) := by
  pointwise [spreadF]

theorem maximumf_at (x y : RowT) (i : S128.Idx) : maximumf x y i = max (x i) (y i) := rfl

theorem bottomF_apply (s : Fin 128) :
    (broadcastInDim S128 ![] bcast_S_S128 ((constant S_ .f32 0xFF800000#32) : FVec Ideal S_ .f32) : RowT) (ix1 s) = ⊥ := by
  have h : (broadcastInDim S128 ![] bcast_S_S128 ((constant S_ .f32 0xFF800000#32) : FVec Ideal S_ .f32) : RowT) (ix1 s)
      = Ideal.ofBits FTy.f32 0xFF800000#32 := by
    pointwise
  rw [h, negInf]

theorem rowMax_apply (x : MatT) (s : Fin 128) :
    Host.reduce (FloatOps.maximumf (F := Ideal) (φ := .f32)) x ((constant S_ .f32 0xFF800000#32) : FVec Ideal S_ .f32) reducesTo_S128x100000_S128_d1 h_S_ (ix1 s)
      = Finset.fold max (Ideal.ofBits FTy.f32 0xFF800000#32) (fun k : Fin 100000 => x (ix2 s k)) Finset.univ :=
  Rows.fold2 (a := 128) (b := 100000) (max : EReal → EReal → EReal) x ((constant S_ .f32 0xFF800000#32) : FVec Ideal S_ .f32)
    reducesTo_S128x100000_S128_d1 h_S_ s

theorem topF_apply (x : MatT) (s : Fin 128) : topF x (ix1 s) = Finset.fold max ⊥ (fun k : Fin 100000 => x (ix2 s k)) Finset.univ := by
  unfold topF
  rw [maximumf_at, bottomF_apply, rowMax_apply, negInf]
  exact max_eq_right bot_le

theorem totalF_apply (x : MatT) (s : Fin 128) : totalF x (ix1 s) = ∑ k : Fin 100000, x (ix2 s k) := by
  have h : totalF x (ix1 s) = Ideal.ofBits FTy.f32 0x00000000#32 + ∑ k : Fin 100000, x (ix2 s k) :=
    Rows.sum2 (a := 128) (b := 100000) x (Ideal.ofBits FTy.f32 0x00000000#32) reducesTo_S128x100000_S128_d1 s
  rw [h, Ideal.ofBits_zero_f32, zero_add]

/-- A fold of the maximum of reals over a nonempty row is a real. -/
theorem fold_max_real {n : ℕ} (hn : 0 < n) (f : Fin n → EReal) (x : Fin n → ℝ) (hf : ∀ k, f k = (x k : EReal)) :
    ∃ M : ℝ, Finset.fold max ⊥ f Finset.univ = (M : EReal) := by
  have h1 : Finset.fold max ⊥ f Finset.univ < ⊤ := (Finset.fold_max_lt _).mpr ⟨bot_lt_top, fun k _ => by rw [hf k]; exact EReal.coe_lt_top _⟩
  have h2 : ⊥ < Finset.fold max ⊥ f Finset.univ :=
    lt_of_lt_of_le (by rw [hf ⟨0, hn⟩]; exact EReal.bot_lt_coe _) ((Finset.le_fold_max _).mpr (Or.inr ⟨⟨0, hn⟩, Finset.mem_univ _, le_refl _⟩))
  exact ⟨_, (EReal.coe_toReal h1.ne h2.ne').symm⟩

theorem coe_sum {ι : Type} (t : Finset ι) (f : ι → ℝ) : ((∑ k ∈ t, f k : ℝ) : EReal) = ∑ k ∈ t, (f k : EReal) := by
  classical
  induction t using Finset.induction_on with
  | empty => rfl
  | insert k t hk ih => rw [Finset.sum_insert hk, Finset.sum_insert hk, EReal.coe_add, ih]

/-- A quotient of reals by a nonzero real. -/
theorem div_coe {x y : ℝ} (hy : y ≠ 0) : Ideal.div (x : EReal) (y : EReal) = ((x * y⁻¹ : ℝ) : EReal) := by
  unfold Ideal.div
  rw [if_neg (by exact_mod_cast hy), ← EReal.coe_inv, ← EReal.coe_mul]

/-- The probabilities of a row of real logits: positive reals, ordered as the logits are. -/
theorem probs_real (T : RowT) (L : MatT) (s : Fin 128) (t : ℝ) (ht : 0 < t) (hT : T (ix1 s) = (t : EReal)) (x : Fin 100000 → ℝ)
    (hL : ∀ k, L (ix2 s k) = (x k : EReal)) :
    ∃ p : Fin 100000 → ℝ, (∀ k, probsF (F := Ideal) T L (ix2 s k) = (p k : EReal)) ∧ (∀ k, 0 < p k) ∧ ∀ j k, p j < p k ↔ x j < x k := by
  have hd : ∀ k, Host.divf L (spreadF T) (ix2 s k) = ((x k * t⁻¹ : ℝ) : EReal) := fun k => by
    rw [divf_at, hL, spreadF_apply, hT, div_coe ht.ne']
  obtain ⟨M, hM⟩ := fold_max_real (by norm_num) (fun k : Fin 100000 => Host.divf L (spreadF T) (ix2 s k)) _ hd
  have he : ∀ k, expsF T L (ix2 s k) = ((Real.exp (x k * t⁻¹ - M) : ℝ) : EReal) := fun k => by
    show Ideal.exp (Host.divf L (spreadF T) (ix2 s k) - spreadF (topF (Host.divf L (spreadF T))) (ix2 s k)) = _
    rw [hd, spreadF_apply, topF_apply, hM, ← EReal.coe_sub]
    rfl
  have hz : totalF (expsF T L) (ix1 s) = ((∑ k, Real.exp (x k * t⁻¹ - M) : ℝ) : EReal) := by
    rw [totalF_apply, Finset.sum_congr rfl fun k _ => he k]
    exact (coe_sum _ _).symm
  have hz0 : 0 < ∑ k : Fin 100000, Real.exp (x k * t⁻¹ - M) :=
    Finset.sum_pos (fun k _ => Real.exp_pos _) ⟨⟨0, by norm_num⟩, Finset.mem_univ _⟩
  refine ⟨fun k => Real.exp (x k * t⁻¹ - M) * (∑ k, Real.exp (x k * t⁻¹ - M))⁻¹, fun k => ?_, fun k => ?_, fun j k => ?_⟩
  · rw [probsF_eq']
    rw [divf_at, he, spreadF_apply, hz, div_coe hz0.ne']
  · exact mul_pos (Real.exp_pos _) (inv_pos.mpr hz0)
  · rw [mul_lt_mul_iff_left₀ (inv_pos.mpr hz0), Real.exp_lt_exp, sub_lt_sub_iff_right, mul_lt_mul_iff_left₀ (inv_pos.mpr ht)]

end Cert.ReferenceIdeal.Hand

end
-- ==== Proof.Order.lean ====
/-
  Two facts about the stable sort of positions: its first entry is the first place of the least key, and the stable sort
  of a permutation inverts it.
-/
module

public import Idealize.ShloMosaic.PureOps
public import Idealize.ShloMosaic.Lib.SortFacts
public import Mathlib.Order.WellFounded

@[expose] public section

namespace Cert.Order

open Idealize.ShloMosaic

/-- The head of the stable sort of an increasing list: the first place of the least key. -/
theorem stableSort_head {n : ℕ} {α : Type} [LinearOrder α] (f : Fin n → α) (l : List (Fin n)) (hl : l.Pairwise (· < ·)) (hne : l ≠ []) :
    ∃ k rest, stableSort (fun a b => decide (f a < f b)) l = k :: rest ∧ k ∈ l ∧ ∀ j ∈ l, f k ≤ f j ∧ (j < k → f k < f j) := by
  induction l with
  | nil => exact absurd rfl hne
  | cons a l ih =>
    rw [List.pairwise_cons] at hl
    by_cases hl0 : l = []
    · subst hl0
      refine ⟨a, [], rfl, List.mem_cons_self, fun j hj => ?_⟩
      rw [List.mem_singleton.mp hj]
      exact ⟨le_refl _, fun h => absurd h (lt_irrefl _)⟩
    · obtain ⟨k, rest, e, hk, h⟩ := ih hl.2 hl0
      unfold stableSort
      rw [e]
      unfold insertBefore
      by_cases hka : f k < f a
      · rw [if_pos (decide_eq_true hka)]
        refine ⟨k, _, rfl, List.mem_cons_of_mem _ hk, fun j hj => ?_⟩
        rcases List.mem_cons.mp hj with rfl | hj
        · exact ⟨hka.le, fun _ => hka⟩
        · exact h j hj
      · rw [if_neg (by simpa using hka)]
        refine ⟨a, _, rfl, List.mem_cons_self, fun j hj => ?_⟩
        rcases List.mem_cons.mp hj with rfl | hj
        · exact ⟨le_refl _, fun h => absurd h (lt_irrefl _)⟩
        · exact ⟨(not_lt.mp hka).trans (h j hj).1, fun hja => absurd hja (not_lt.mpr (hl.1 j hj).le)⟩

theorem finRange_pairwise (n : ℕ) : (List.finRange n).Pairwise (· < ·) := List.pairwise_lt_finRange n

/-- Rank zero of the stable sort: the first place of the least key. -/
theorem sortedFrom_head {n : ℕ} {α : Type} [LinearOrder α] (f : Fin n → α) (r : Fin n) (hr : r.val = 0) (j : Fin n) :
    f (sortedFrom (fun a b => decide (f a < f b)) r) ≤ f j ∧
      (j < sortedFrom (fun a b => decide (f a < f b)) r → f (sortedFrom (fun a b => decide (f a < f b)) r) < f j) := by
  obtain ⟨k, rest, e, _, h⟩ := stableSort_head f (List.finRange n) (finRange_pairwise n)
    (List.ne_nil_of_length_pos (by rw [List.length_finRange]; exact Fin.pos r))
  have hk : sortedFrom (fun a b => decide (f a < f b)) r = k := by
    unfold sortedFrom
    have : ∀ (L : List (Fin n)) (i : Fin L.length), L = k :: rest → i.val = 0 → L.get i = k := by
      rintro L ⟨i, hi⟩ rfl hi0
      simp only at hi0
      subst hi0
      rfl
    exact this _ _ e hr
  rw [hk]
  exact h j (List.mem_finRange j)

/-- The stable sort of a permutation, taken as keys, inverts it. -/
theorem sortedFrom_inverse {n : ℕ} (σ : Fin n → Fin n) (hσ : Function.Injective σ) (j : Fin n) :
    σ (sortedFrom (fun a b => decide (σ a < σ b)) j) = j := by
  have hmono : StrictMono fun j => σ (sortedFrom (fun a b => decide (σ a < σ b)) j) := by
    intro i j hij
    have h := sortedFrom_noInversion (fun a b => decide (σ a < σ b)) (fun a b => decide (σ a < σ b)) ?_ ?_ ?_ i j hij
    · refine lt_of_le_of_ne (not_lt.mp (of_decide_eq_false h)) fun e => ?_
      exact absurd (sortedFrom_injective _ (hσ e)) hij.ne
    · intro a b h
      exact decide_eq_false (lt_asymm (of_decide_eq_true h))
    · exact fun a b h => h
    · intro a b c h h'
      exact decide_eq_false (not_lt.mpr ((not_lt.mp (of_decide_eq_false h')).trans (not_lt.mp (of_decide_eq_false h))))
  exact le_antisymm (hmono.apply_le) (hmono.le_apply)

end Cert.Order
-- ==== Proof.Ref.Ranks.lean ====
/-
  The reference's two sorts and two takes along the rows: the order of the keys, the order's inverse, and the value taken
  at a column the index names.
-/
module

public import proofs.«01_k».proof.Proof.Ref.Softmax
public import proofs.«01_k».proof.Proof.Order

@[expose] public section

noncomputable section

namespace Cert.ReferenceIdeal.Hand

open Idealize.ShloMosaic Idealize.ShloMosaic.TcCoe Cert.ReferenceIdeal Cert.FirstMax
open Facts₀ Facts

/-- One word to a row and column. -/
abbrev WordT := IVec S128x100000 32

theorem comparator_f32 (l r : EReal × BitVec 32) :
    comparator_f32_i32_d1 (F := Ideal) l r = BitVec.ofBool (decide (l.1 < r.1)) := by
  have hs : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := fun x => by
    have h1 : Ideal.cmp .une x x ≠ 1#1 := by simp [Ideal.cmp]
    refine (if_neg h1).trans ?_
    by_cases h0 : x = Ideal.ofBits .f32 0x00000000#32
    · subst h0; exact ite_self _
    · have h2 : Ideal.cmp .oeq x (Ideal.ofBits .f32 0x00000000#32) ≠ 1#1 := by
        show BitVec.ofBool (decide (x = Ideal.ofBits .f32 0x00000000#32)) ≠ 1#1
        rw [decide_eq_false h0]
        decide
      exact if_neg h2
  show Ideal.cmp .olt
      (Scalar.select (Ideal.cmp .une l.1 l.1) (Ideal.ofBits .f32 0x7FC00000#32)
        (Scalar.select (Ideal.cmp .oeq l.1 (Ideal.ofBits .f32 0x00000000#32)) (Ideal.ofBits .f32 0x00000000#32) l.1))
      (Scalar.select (Ideal.cmp .une r.1 r.1) (Ideal.ofBits .f32 0x7FC00000#32)
        (Scalar.select (Ideal.cmp .oeq r.1 (Ideal.ofBits .f32 0x00000000#32)) (Ideal.ofBits .f32 0x00000000#32) r.1)) = _
  rw [hs, hs]
  rfl

theorem ofBool_beq (d : Bool) : (BitVec.ofBool d == 1#1) = d := by
  cases d <;> rfl

theorem columns_apply (s : Fin 128) (j : Fin 100000) : (iotaInDim S128x100000 32 1 : WordT) (ix2 s j) = BitVec.ofNat 32 j.val := by
  pointwise

/-- The order of a row's keys. -/
theorem orderF_apply (K : MatT) (s : Fin 128) (r : Fin 100000) :
    (orderF (F := Ideal) K : WordT) (ix2 s r)
      = BitVec.ofNat 32 (sortedFrom (fun a b : Fin 100000 => decide (K (ix2 s a) < K (ix2 s b))) r).val := by
  have h := Rows.sort2_row (a := 128) (b := 100000) (comparator_f32_i32_d1 (F := Ideal)) K (iotaInDim S128x100000 32 1 : WordT) s r
  simp only [comparator_f32, ofBool_beq] at h
  rw [columns_apply] at h
  exact h

/-- The order of a row of small words. -/
theorem unorderF_apply (O : WordT) (s : Fin 128) (σ : Fin 100000 → Fin 100000) (hO : ∀ r, O (ix2 s r) = BitVec.ofNat 32 (σ r).val) (j : Fin 100000) :
    (unorderF (F := Ideal) O : WordT) (ix2 s j) = BitVec.ofNat 32 (sortedFrom (fun a b : Fin 100000 => decide (σ a < σ b)) j).val := by
  have hc : ∀ a b : Fin 100000, ∀ u v : BitVec 32, (comparator_i32_i32_d1 (BitVec.ofNat 32 (σ a).val, u) (BitVec.ofNat 32 (σ b).val, v) == 1#1) = decide (σ a < σ b) := by
    intro a b u v
    have h1 := (σ a).isLt
    have h2 := (σ b).isLt
    show (BitVec.ofBool ((BitVec.ofNat 32 (σ a).val).slt (BitVec.ofNat 32 (σ b).val)) == 1#1) = _
    rw [ofBool_beq, BitVec.slt, toInt_small (by omega), toInt_small (by omega)]
    exact decide_eq_decide.mpr (by rw [Nat.cast_lt]; rfl)
  have h := Rows.sort2_row (a := 128) (b := 100000) comparator_i32_i32_d1 O (iotaInDim S128x100000 32 1 : WordT) s j
  simp only [hO, hc] at h
  rw [columns_apply] at h
  exact h

/-- The index, counted from the end when negative, with a last axis of extent one. -/
def wrapF (v : WordT) : IVec S128x100000x1 32 :=
  shapeCast S128x100000x1 (select (cmpi .slt v (broadcastInDim S128x100000 ![] bcast_S_S128x100000 (constantI S_ 32 0#32)))
    (addi v (broadcastInDim S128x100000 ![] bcast_S_S128x100000 (constantI S_ 32 100000#32))) v) shapeCasts_S128x100000_S128x100000x1

/-- Whether the index is in range. -/
def inF (w : IVec S128x100000x1 32) : IVec S128x100000x1 1 :=
  andi (cmpi .sge w (broadcastInDim S128x100000x1 ![] bcast_S_S128x100000x1 (constantI S_ 32 0#32)))
    (cmpi .sle w (broadcastInDim S128x100000x1 ![0, 1, 2] bcast_S1x1x1_S128x100000x1_0_1_2 (broadcastInDim S1x1x1 ![2] bcast_S1_S1x1x1_2 (constantI S1 32 99999#32))))

/-- The operand taken along the row at the index, where it is in range. -/
def takeF (v : WordT) (x : MatT) : MatT :=
  select (Host.reduce IntOp.andi (inF (wrapF v)) (constantI S_ 1 1#1) reducesTo_S128x100000x1_S128x100000_d2 h_S_)
    (Host.gather gather_S128x100000_S128x100000x1_S128x100000_n_1_0_0_1_2_11 x (wrapF v))
    (broadcastInDim S128x100000 ![] bcast_S_S128x100000 ((constant S_ .f32 0x7FC00000#32) : FVec Ideal S_ .f32))

theorem rankedF_take (v : WordT) (x : MatT) : (rankedF (F := Ideal) v x : MatT) = takeF v x := rfl

theorem unrankedF_take (v : WordT) (x : MatT) : (unrankedF (F := Ideal) v x : MatT) = takeF v x := rfl

theorem wrapF_apply (v : WordT) (s : Fin 128) (j : Fin 100000) :
    wrapF v (ix3 s j 0) = Scalar.select (IntOp.cmpi .slt (v (ix2 s j)) 0#32) (IntOp.addi (v (ix2 s j)) 100000#32) (v (ix2 s j)) := by
  pointwise [wrapF]

theorem inF_apply (w : IVec S128x100000x1 32) (s : Fin 128) (j : Fin 100000) :
    inF w (ix3 s j 0) = IntOp.andi (IntOp.cmpi .sge (w (ix3 s j 0)) 0#32) (IntOp.cmpi .sle (w (ix3 s j 0)) 99999#32) := by
  pointwise [inF]

theorem select_at (c : IVec S128x100000 1) (x y : MatT) (i : S128x100000.Idx) : select c x y i = Scalar.select (c i) (x i) (y i) := rfl

theorem wrapF_small (v : WordT) (s : Fin 128) (j k : Fin 100000) (hv : v (ix2 s j) = BitVec.ofNat 32 k.val) :
    wrapF v (ix3 s j 0) = BitVec.ofNat 32 k.val := by
  have hk := k.isLt
  have h0 : (0#32).toInt = 0 := by decide
  rw [wrapF_apply, hv]
  refine if_neg ?_
  show BitVec.ofBool ((BitVec.ofNat 32 k.val).slt 0#32) ≠ 1#1
  rw [BitVec.slt, toInt_small (by omega), h0, decide_eq_false (by omega)]
  decide

theorem inF_small (w : IVec S128x100000x1 32) (s : Fin 128) (j k : Fin 100000) (hw : w (ix3 s j 0) = BitVec.ofNat 32 k.val) :
    inF w (ix3 s j 0) = 1#1 := by
  have hk := k.isLt
  have h0 : (0#32).toInt = 0 := by decide
  have h9 : (99999#32).toInt = 99999 := by decide
  rw [inF_apply, hw]
  show IntOp.andi (BitVec.ofBool ((0#32).sle (BitVec.ofNat 32 k.val))) (BitVec.ofBool ((BitVec.ofNat 32 k.val).sle 99999#32)) = 1#1
  rw [BitVec.sle, BitVec.sle, toInt_small (k := k.val) (by omega), h0, h9, decide_eq_true (by omega), decide_eq_true (by omega)]
  decide

theorem gather_apply (x : MatT) (w : IVec S128x100000x1 32) (s : Fin 128) (j k : Fin 100000) (hw : w (ix3 s j 0) = BitVec.ofNat 32 k.val) :
    Host.gather gather_S128x100000_S128x100000x1_S128x100000_n_1_0_0_1_2_11 x w (ix2 s j) = x (ix2 s k) := by
  have hk := k.isLt
  have h := Rows.take_cols (A := 128) (N := 100000) (B := 100000) (by omega) gather_S128x100000_S128x100000x1_S128x100000_n_1_0_0_1_2_11_wf x w s j
  have e : (⟨min (w (ix3 s j 0)).toInt.toNat (100000 - 1), by omega⟩ : Fin 100000) = k := by
    refine Fin.ext ?_
    show min (w (ix3 s j 0)).toInt.toNat (100000 - 1) = k.val
    rw [hw, toInt_small (by omega)]
    omega
  rw [e] at h
  exact h

/-- The value taken at a column the index names. -/
theorem takeF_apply (v : WordT) (x : MatT) (s : Fin 128) (j k : Fin 100000) (hv : v (ix2 s j) = BitVec.ofNat 32 k.val) :
    takeF v x (ix2 s j) = x (ix2 s k) := by
  have hm := Rows.and3 (a := 128) (b := 100000) (inF (wrapF v)) (constantI S_ 1 1#1) reducesTo_S128x100000x1_S128x100000_d2 h_S_ s j
  rw [inF_small _ s j k (wrapF_small v s j k hv)] at hm
  unfold takeF
  rw [select_at, hm, gather_apply x _ s j k (wrapF_small v s j k hv)]
  exact if_pos (by decide)

end Cert.ReferenceIdeal.Hand

end
-- ==== Proof.Ref.Logits.lean ====
/-
  The reference's logits at an index: the scores of the row's hidden state at the position.
-/
module

public import proofs.«01_k».proof.Proof.Ref.Ranks
public import proofs.«01_k».proof.Proof.Spec

@[expose] public section

noncomputable section

namespace Cert.ReferenceIdeal.Hand

open Idealize.ShloMosaic Idealize.ShloMosaic.TcCoe Cert.ReferenceIdeal Cert.FirstMax Cert.Spec
open Facts₀ Facts

/-- Taking one position of the middle axis, whole on the other two. -/
abbrev takePosDims (A P K : Nat)
    (wf : GatherDims.WF ⟨3, ![A, P, K]⟩ ⟨2, ![1, 1]⟩ ⟨3, ![A, 1, K]⟩ [0, 2] [1] [] [1] [] 1 ![A, 1, K]) :
    GatherDims ⟨3, ![A, P, K]⟩ ⟨2, ![1, 1]⟩ ⟨3, ![A, 1, K]⟩ where
  offsetDims := [0, 2]
  collapsedSliceDims := [1]
  operandBatchingDims := []
  startIndicesBatchingDims := []
  startIndexMap := [1]
  indexVectorDim := 1
  sliceSizes := ![A, 1, K]
  wf := wf

/-- Element `(s, 0, k)`: the operand at `(s, p, k)`, the position read signed and clamped. -/
theorem take_pos {α : Type} {A P K w : Nat} (hP : 0 < P)
    (wf : GatherDims.WF ⟨3, ![A, P, K]⟩ ⟨2, ![1, 1]⟩ ⟨3, ![A, 1, K]⟩ [0, 2] [1] [] [1] [] 1 ![A, 1, K])
    (x : (⟨3, ![A, P, K]⟩ : Shape).Idx → α) (idx : IVec ⟨2, ![1, 1]⟩ w) (s : Fin A) (k : Fin K) :
    Host.gather (takePosDims A P K wf) x idx (ix3 s 0 k)
      = x (ix3 s ⟨min (idx (ix2 0 0)).toInt.toNat (P - 1), by omega⟩ k) := by
  unfold Host.gather
  congr 1
  funext c
  refine Fin.ext ?_
  show (takePosDims A P K wf).start (ix3 s 0 k) idx c + (takePosDims A P K wf).batchCoord (ix3 s 0 k) c
      + (takePosDims A P K wf).offCoord (ix3 s 0 k) c = _
  rw [GatherDims.batchCoord_eq_zero _ _ _ List.not_mem_nil, Nat.add_zero]
  match c with
  | ⟨0, _⟩ =>
    have h0 : (takePosDims A P K wf).start (ix3 s 0 k) idx 0 = 0 := by
      unfold GatherDims.start
      exact dif_neg (show ¬ (0 : Fin 3) ∈ ([1] : List (Fin 3)) by decide)
    have h1 : (takePosDims A P K wf).offCoord (ix3 s 0 k) 0 = s.val := by
      unfold GatherDims.offCoord
      rw [dif_pos ((GatherDims.mem_sKept _ _).mpr ⟨show ¬ (0 : Fin 3) ∈ ([1] : List (Fin 3)) by decide, List.not_mem_nil⟩)]
      rfl
    show (takePosDims A P K wf).start (ix3 s 0 k) idx 0 + (takePosDims A P K wf).offCoord (ix3 s 0 k) 0 = s.val
    rw [h0, h1, Nat.zero_add]
  | ⟨1, _⟩ =>
    have h1 : (takePosDims A P K wf).offCoord (ix3 s 0 k) 1 = 0 :=
      GatherDims.offCoord_eq_zero _ _ _ fun h => ((GatherDims.mem_sKept _ _).mp h).1 (List.mem_singleton.mpr rfl)
    have h0 : (takePosDims A P K wf).start (ix3 s 0 k) idx 1 = min (idx (ix2 0 0)).toInt.toNat (P - 1) := by
      unfold GatherDims.start
      rw [dif_pos (show (1 : Fin 3) ∈ (takePosDims A P K wf).startIndexMap from List.mem_singleton.mpr rfl)]
      have hsi : (takePosDims A P K wf).siIdx (ix3 s 0 k) ⟨List.idxOf (1 : Fin 3) (takePosDims A P K wf).startIndexMap,
          List.idxOf_lt_length_iff.2 (List.mem_singleton.mpr rfl)⟩ = ix2 0 0 := by
        funext b; refine Fin.ext ?_
        match b with
        | ⟨0, _⟩ => rfl
        | ⟨1, _⟩ => rfl
      rw [hsi]
      rfl
    show (takePosDims A P K wf).start (ix3 s 0 k) idx 1 + (takePosDims A P K wf).offCoord (ix3 s 0 k) 1 = min (idx (ix2 0 0)).toInt.toNat (P - 1)
    rw [h0, h1, Nat.add_zero]
  | ⟨2, _⟩ =>
    have h0 : (takePosDims A P K wf).start (ix3 s 0 k) idx 2 = 0 := by
      unfold GatherDims.start
      exact dif_neg (show ¬ (2 : Fin 3) ∈ ([1] : List (Fin 3)) by decide)
    have h1 : (takePosDims A P K wf).offCoord (ix3 s 0 k) 2 = k.val := by
      unfold GatherDims.offCoord
      rw [dif_pos ((GatherDims.mem_sKept _ _).mpr ⟨show ¬ (2 : Fin 3) ∈ ([1] : List (Fin 3)) by decide, List.not_mem_nil⟩)]
      rfl
    show (takePosDims A P K wf).start (ix3 s 0 k) idx 2 + (takePosDims A P K wf).offCoord (ix3 s 0 k) 2 = k.val
    rw [h0, h1, Nat.zero_add]

/-- The position, counted from the end when negative. -/
def posF (p : IVec S1 32) : IVec S1x1 32 :=
  broadcastInDim S1x1 ![0] bcast_S1_S1x1_0 (select (cmpi .slt p (broadcastInDim S1 ![] bcast_S_S1 (constantI S_ 32 0#32)))
    (addi p (broadcastInDim S1 ![] bcast_S_S1 (constantI S_ 32 16#32))) p)

/-- Whether the position is in range. -/
def posInF (w : IVec S1x1 32) : IVec S1x1 1 :=
  andi (cmpi .sge w (broadcastInDim S1x1 ![] bcast_S_S1x1 (constantI S_ 32 0#32)))
    (cmpi .sle w (broadcastInDim S1x1 ![1] bcast_S1_S1x1_1 (constantI S1 32 15#32)))

/-- The hidden states at the position, where it is in range. -/
def hiddenF (p : IVec S1 32) (h : FVec Ideal S128x16x2048 .f32) : FVec Ideal S128x1x2048 .f32 :=
  select (broadcastInDim S128x1x2048 ![1] bcast_S1_S128x1x2048_1 (Host.reduce IntOp.andi (posInF (posF p)) (constantI S_ 1 1#1) reducesTo_S1x1_S1_d1 h_S_ : IVec S1 1))
    (Host.gather gather_S128x16x2048_S1x1_S128x1x2048_02_1_n_n_1_1_12812048 h (posF p))
    (broadcastInDim S128x1x2048 ![] bcast_S_S128x1x2048 ((constant S_ .f32 0x7FC00000#32) : FVec Ideal S_ .f32))

/-- The scores of given hidden states. -/
def scoresF (h : FVec Ideal S128x1x2048 .f32) (E : FVec Ideal S100000x2048 .f32) (b : FVec Ideal S100000 .f32) : MatT :=
  addf (Host.dotGeneral dot_S128x2048_S2048x100000_S128x100000_1_0_0_1_n_n none (shapeCast S128x2048 h shapeCasts_S128x1x2048_S128x2048)
      (transpose S2048x100000 [1, 0] E transposes_S100000x2048_S2048x100000_1_0) : MatT)
    (broadcastInDim S128x100000 ![0, 1] bcast_S1x100000_S128x100000_0_1 (broadcastInDim S1x100000 ![1] bcast_S100000_S1x100000_1 b))

theorem logitsF_eq' (p : IVec S1 32) (h : FVec Ideal S128x16x2048 .f32) (E : FVec Ideal S100000x2048 .f32) (b : FVec Ideal S100000 .f32) :
    (logitsF (F := Ideal) p h E b : MatT) = scoresF (hiddenF p h) E b := rfl

theorem scoresF_apply (h : FVec Ideal S128x1x2048 .f32) (E : FVec Ideal S100000x2048 .f32) (b : FVec Ideal S100000 .f32) (s : Fin 128) (j : Fin 100000) :
    scoresF h E b (ix2 s j) = ∑ k : Fin 2048, h (ix3 s 0 k) * E (ix2 j k) + b (ix1 j) := by
  pointwise [scoresF]

theorem posF_apply (p : IVec S1 32) :
    posF p (ix2 0 0) = Scalar.select (IntOp.cmpi .slt (p (ix1 0)) 0#32) (IntOp.addi (p (ix1 0)) 16#32) (p (ix1 0)) := by
  pointwise [posF]

theorem posInF_apply (w : IVec S1x1 32) :
    posInF w (ix2 0 0) = IntOp.andi (IntOp.cmpi .sge (w (ix2 0 0)) 0#32) (IntOp.cmpi .sle (w (ix2 0 0)) 15#32) := by
  pointwise [posInF]

/-- The conjunction over the one position. -/
theorem and2 {u : Shape} (x : IVec ⟨2, ![1, 1]⟩ 1) (init : u.Idx → BitVec 1) (h : (⟨2, ![1, 1]⟩ : Shape).ReducesTo [1] ⟨1, ![1]⟩) (hu : 0 < u.numel) :
    Host.reduce IntOp.andi x init h hu (ix1 0) = IntOp.andi (x (ix2 0 0)) (init (Shape.Idx.first hu)) := by
  rw [Rows.fold2, Finset.univ_unique, Finset.fold_singleton]
  rfl

theorem hselect_at (c : IVec S1 1) (x y : FVec Ideal S128x1x2048 .f32) (s : Fin 128) (k : Fin 2048) :
    select (broadcastInDim S128x1x2048 ![1] bcast_S1_S128x1x2048_1 c) x y (ix3 s 0 k) = Scalar.select (c (ix1 0)) (x (ix3 s 0 k)) (y (ix3 s 0 k)) := by
  pointwise

/-- The hidden state at a position in range. -/
theorem hiddenF_apply (p : IVec S1 32) (h : FVec Ideal S128x16x2048 .f32) (h1 : -16 ≤ (p (ix1 0)).toInt) (h2 : (p (ix1 0)).toInt < 16)
    (s : Fin 128) (k : Fin 2048) : hiddenF p h (ix3 s 0 k) = h (ix3 s (posIx (p (ix1 0))) k) := by
  have hw : (posF p (ix2 0 0)).toInt = ((posIx (p (ix1 0))).val : ℤ) := by
    rw [posF_apply]; exact posIx_wrap h1 h2
  have hlt := (posIx (p (ix1 0))).isLt
  have h0 : (0#32).toInt = 0 := by decide
  have h15 : (15#32).toInt = 15 := by decide
  have hm : posInF (posF p) (ix2 0 0) = 1#1 := by
    rw [posInF_apply]
    show IntOp.andi (BitVec.ofBool ((0#32).sle (posF p (ix2 0 0)))) (BitVec.ofBool ((posF p (ix2 0 0)).sle 15#32)) = 1#1
    rw [BitVec.sle, BitVec.sle, hw, h0, h15, decide_eq_true (by omega), decide_eq_true (by omega)]
    decide
  have hr := and2 (posInF (posF p)) (constantI S_ 1 1#1) reducesTo_S1x1_S1_d1 h_S_
  rw [hm] at hr
  have hg := take_pos (A := 128) (P := 16) (K := 2048) (by omega) gather_S128x16x2048_S1x1_S128x1x2048_02_1_n_n_1_1_12812048_wf h (posF p) s k
  have e : (⟨min (posF p (ix2 0 0)).toInt.toNat (16 - 1), by omega⟩ : Fin 16) = posIx (p (ix1 0)) := by
    refine Fin.ext ?_
    show min (posF p (ix2 0 0)).toInt.toNat (16 - 1) = (posIx (p (ix1 0))).val
    rw [hw]
    omega
  rw [e] at hg
  unfold hiddenF
  rw [hselect_at, hr]
  exact (if_pos (by decide)).trans hg

/-- The logits are the scores. -/
theorem logitsF_apply (p : IVec S1 32) (h : FVec Ideal S128x16x2048 .f32) (E : FVec Ideal S100000x2048 .f32) (b : FVec Ideal S100000 .f32)
    (h1 : -16 ≤ (p (ix1 0)).toInt) (h2 : (p (ix1 0)).toInt < 16) (s : Fin 128) (j : Fin 100000) :
    (logitsF (F := Ideal) p h E b : MatT) (ix2 s j)
      = score (fun k => h (ix3 s (posIx (p (ix1 0))) k)) (fun v k => E (ix2 v k)) (fun v => b (ix1 v)) j.val := by
  rw [logitsF_eq', scoresF_apply, score_of _ _ _ _ j.isLt]
  exact congrArg (· + b (ix1 j)) (Finset.sum_congr rfl fun k _ => by rw [hiddenF_apply p h h1 h2])

/-- A score of reals is a real. -/
theorem score_real (h : Fin 2048 → EReal) (E : Fin 100000 → Fin 2048 → EReal) (b : Fin 100000 → EReal)
    (hh : ∀ k, ∃ r : ℝ, h k = (r : EReal)) (hE : ∀ v k, ∃ r : ℝ, E v k = (r : EReal)) (hb : ∀ v, ∃ r : ℝ, b v = (r : EReal)) (v : Fin 100000) :
    ∃ r : ℝ, score h E b v.val = (r : EReal) := by
  choose h' hh using hh
  choose E' hE using hE
  choose b' hb using hb
  refine ⟨∑ k, h' k * E' v k + b' v, ?_⟩
  rw [score_of _ _ _ _ v.isLt, EReal.coe_add, coe_sum, hb]
  exact congrArg (· + (b' v : EReal)) (Finset.sum_congr rfl fun k _ => by rw [hh, hE, EReal.coe_mul])

end Cert.ReferenceIdeal.Hand

end
-- ==== Proof.Ref.Kept.lean ====
/-
  What the reference keeps of a row's ranked probabilities: rank zero alone, which is then the whole of the row's sum.
-/
module

public import proofs.«01_k».proof.Proof.Ref.Softmax

@[expose] public section

noncomputable section

namespace Cert.ReferenceIdeal.Hand

open Idealize.ShloMosaic Idealize.ShloMosaic.TcCoe Cert.ReferenceIdeal Cert.FirstMax
open Facts₀ Facts

/-- The running sums along the rows. -/
def runF (x : MatT) : MatT :=
  Host.reduceWindowAdd ![1, 100000] ![1, 1] ![0, 99999] ![0, 0] x (broadcastInDim S_ ![] bcast_S_S_ ((constant S_ .f32 0x00000000#32) : FVec Ideal S_ .f32))
    reduceWindows_S128x100000_S128x100000_w1s1p0_0_w100000s1p99999_0 h_S_

/-- Zero at every row and column. -/
def zerosF : MatT := broadcastInDim S128x100000 ![] bcast_S_S128x100000 (id ((constant S_ .f32 0x00000000#32) : FVec Ideal S_ .f32))

/-- Which columns are not column zero. -/
def tailF : IVec S128x100000 1 :=
  cmpi .ne (broadcastInDim S128x100000 ![1] bcast_S100000_S128x100000_1 (iotaInDim S100000 32 0)) (broadcastInDim S128x100000 ![] bcast_S_S128x100000 (constantI S_ 32 0#32))

/-- The ranked probabilities after the two masks. -/
def maskF (x : MatT) (q : RowT) : MatT :=
  select tailF zerosF (select (cmpf .ogt (subf (runF x) x) (spreadF q)) zerosF x)

theorem keptF_eq' (x : MatT) (q : RowT) : (keptF (F := Ideal) x q : MatT) = Host.divf (maskF x q) (spreadF (totalF (maskF x q))) := rfl

theorem zerosF_apply (s : Fin 128) (j : Fin 100000) : zerosF (ix2 s j) = 0 := by
  have h : zerosF (ix2 s j) = Ideal.ofBits FTy.f32 0x00000000#32 := by
    pointwise [zerosF]
    exact Ideal.ofBits_zero_f32
  rw [h, Ideal.ofBits_zero_f32]

theorem tailF_apply (s : Fin 128) (j : Fin 100000) : tailF (ix2 s j) = IntOp.cmpi .ne (BitVec.ofNat 32 j.val) 0#32 := by
  pointwise [tailF]

theorem reduceWindowAdd_ideal {a t u : Shape} (window strides lo hi : Fin a.rank → Nat) (x : FVec Ideal a .f32) (init : FVec Ideal u .f32)
    (h : a.ReduceWindows window strides lo hi t) (hu : 0 < u.numel) :
    Host.reduceWindowAdd window strides lo hi x init h hu = Ideal.hostReduceWindowAdd window strides lo hi h x (init (Shape.Idx.first hu)) := rfl

theorem runF_first (x : MatT) (s : Fin 128) (z : Fin 100000) (hz : z.val = 0) : runF x (ix2 s z) = x (ix2 s z) := by
  have hi : (broadcastInDim S_ ![] bcast_S_S_ ((constant S_ .f32 0x00000000#32) : FVec Ideal S_ .f32) : FVec Ideal S_ .f32) (Shape.Idx.first h_S_) = 0 :=
    (show _ = Ideal.ofBits FTy.f32 0x00000000#32 from rfl).trans Ideal.ofBits_zero_f32
  unfold runF
  rw [reduceWindowAdd_ideal, hi]
  unfold Ideal.hostReduceWindowAdd
  exact Rows.window_first (a := 128) (Nm1 := 99999) (N := 100000) (by omega) x _ _ _ rfl s z hz

theorem mselect_at (c : IVec S128x100000 1) (x y : MatT) (i : S128x100000.Idx) : select c x y i = if c i = 1#1 then x i else y i := rfl

theorem above_at (x y q : MatT) (i : S128x100000.Idx) : cmpf .ogt (subf x y) q i = BitVec.ofBool (decide (q i < x i - y i)) := rfl

/-- Off rank zero nothing is left. -/
theorem maskF_tail (x : MatT) (q : RowT) (s : Fin 128) (j : Fin 100000) (hj : j.val ≠ 0) : maskF x q (ix2 s j) = 0 := by
  have hjl := j.isLt
  have h : tailF (ix2 s j) = 1#1 := by
    rw [tailF_apply]
    show BitVec.ofBool (BitVec.ofNat 32 j.val != 0#32) = 1#1
    have : BitVec.ofNat 32 j.val ≠ 0#32 := fun e => by
      have := congrArg BitVec.toNat e
      simp only [BitVec.toNat_ofNat] at this
      omega
    rw [bne_iff_ne.mpr this]
    rfl
  unfold maskF
  rw [mselect_at, if_pos h, zerosF_apply]

/-- At rank zero the probability is left, the bound being nonnegative. -/
theorem maskF_first (x : MatT) (q : RowT) (s : Fin 128) (z : Fin 100000) (hz : z.val = 0) (hq : 0 ≤ q (ix1 s)) (p : ℝ)
    (hx : x (ix2 s z) = (p : EReal)) : maskF x q (ix2 s z) = (p : EReal) := by
  have h : tailF (ix2 s z) ≠ 1#1 := by
    rw [tailF_apply, hz]
    decide
  have h2 : cmpf .ogt (subf (runF x) x) (spreadF q) (ix2 s z) ≠ 1#1 := by
    rw [above_at, runF_first x s z hz, hx, spreadF_apply, ← EReal.coe_sub, sub_self, EReal.coe_zero, decide_eq_false (not_lt.mpr hq)]
    decide
  unfold maskF
  rw [mselect_at, if_neg h, mselect_at, if_neg h2, hx]

/-- What is kept, divided by its sum: one at rank zero, zero elsewhere. -/
theorem keptF_apply (x : MatT) (q : RowT) (s : Fin 128) (hq : 0 ≤ q (ix1 s)) (p : ℝ) (hp : 0 < p)
    (hx : ∀ z : Fin 100000, z.val = 0 → x (ix2 s z) = (p : EReal)) (j : Fin 100000) :
    (keptF (F := Ideal) x q : MatT) (ix2 s j) = ((if j.val = 0 then (1 : ℝ) else 0 : ℝ) : EReal) := by
  have ht : totalF (maskF x q) (ix1 s) = (p : EReal) := by
    rw [totalF_apply, Finset.sum_eq_single (⟨0, by omega⟩ : Fin 100000)]
    · exact maskF_first x q s _ rfl hq p (hx _ rfl)
    · intro k _ hk
      exact maskF_tail x q s k fun e => hk (Fin.ext e)
    · intro hn
      exact absurd (Finset.mem_univ _) hn
  rw [keptF_eq', divf_at, spreadF_apply, ht]
  by_cases hj : j.val = 0
  · rw [maskF_first x q s j hj hq p (hx j hj), div_coe hp.ne', if_pos hj, mul_inv_cancel₀ hp.ne']
  · rw [maskF_tail x q s j hj, if_neg hj, ← EReal.coe_zero, div_coe hp.ne', zero_mul]

end Cert.ReferenceIdeal.Hand

end
-- ==== Proof.Noise.lean ====
/-
  The noise the reference adds: whatever the random word, the draw lies strictly between zero and one, and minus
  the log of minus its log is a real number between
  -7 and 24 times the log of two.
-/
module

public import Idealize.ShloMosaic.PureOps.Ideal
public import Idealize.ShloMosaic.PureOps.Ideal.Laws

@[expose] public section

noncomputable section

namespace Cert.Noise

open Idealize.ShloMosaic

/-- The log at the reals. -/
theorem log_coe {r : ℝ} (h : 0 < r) : Ideal.log (r : EReal) = (Real.log r : EReal) := if_neg (not_le.mpr h)

/-- A positive word of a middle binade. -/
theorem normal_f32 (b : BitVec 32) (x : ℕ) (h1 : b.extractLsb' 31 1 = 0#1) (h2 : (b.extractLsb' 23 8).toNat = x) (hx0 : x ≠ 0)
    (hx : x ≠ 255) : Ideal.ofBits .f32 b = (((2 ^ 23 + (b.extractLsb' 0 23).toNat : ℕ) * (2 : ℝ) ^ ((x : ℤ) - 150) : ℝ) : EReal) := by
  show Ideal.ieee 8 23 b = _
  unfold Ideal.ieee
  simp only [h1, h2, Nat.reduceAdd, Nat.reduceSub]
  rw [if_neg (by norm_num; exact hx), if_neg hx0]
  simp only [show ((0#1 : BitVec 1) == 1#1) = false from rfl]
  norm_num
  congr 3
  ring

theorem one_f32 : Ideal.ofBits .f32 0x3F800000#32 = ((1 : ℝ) : EReal) := by
  rw [normal_f32 _ 127 (by decide) (by decide) (by decide) (by decide), show ((0x3F800000#32).extractLsb' 0 23).toNat = 0 by decide]
  norm_num

theorem tiny_f32 : Ideal.ofBits .f32 0x00800000#32 = (((2 : ℝ) ^ (-126 : ℤ) : ℝ) : EReal) := by
  rw [normal_f32 _ 1 (by decide) (by decide) (by decide) (by decide), show ((0x00800000#32).extractLsb' 0 23).toNat = 0 by decide]
  norm_num

/-- A word shifted right by nine with the exponent of one put in: a number in [1, 2). -/
theorem unit_word (w : BitVec 32) : ∃ m : ℕ, m < 2 ^ 23 ∧
    Ideal.ofBits .f32 (IntOp.ori (IntOp.shrui .host w 9#32) 1065353216#32) = ((1 + (m : ℝ) / 2 ^ 23 : ℝ) : EReal) := by
  have hs : IntOp.ori (IntOp.shrui .host w 9#32) 1065353216#32 = w >>> 9 ||| 1065353216#32 := by
    show (if (9#32).toNat < 32 then w >>> (9#32) else _) ||| 1065353216#32 = _
    rw [if_pos (by decide)]
    rfl
  rw [hs]
  refine ⟨((w >>> 9 ||| 1065353216#32).extractLsb' 0 23).toNat, BitVec.isLt _, ?_⟩
  have h1 : (w >>> 9 ||| 1065353216#32).extractLsb' 31 1 = 0#1 := by
    ext i hi
    interval_cases i
    simp
  have h2 : (w >>> 9 ||| 1065353216#32).extractLsb' 23 8 = 127#8 := by
    ext i hi
    interval_cases i <;> simp
  rw [normal_f32 _ 127 h1 (by rw [h2]; rfl) (by decide) (by decide)]
  generalize ((w >>> 9 ||| 1065353216#32).extractLsb' 0 23).toNat = n
  congr 1
  push_cast
  norm_num
  ring

/-- The noise at any word. -/
theorem noise_bounds (w : BitVec 32) : ∃ r : ℝ, -(7 * Real.log 2) ≤ r ∧ r ≤ 24 * Real.log 2 ∧
    -Ideal.log (-Ideal.log (max (Ideal.ofBits .f32 0x00800000#32)
      ((Ideal.ofBits .f32 (IntOp.ori (IntOp.shrui .host w 9#32) 1065353216#32) - Ideal.ofBits .f32 0x3F800000#32) *
        (Ideal.ofBits .f32 0x3F800000#32 - Ideal.ofBits .f32 0x00800000#32) + Ideal.ofBits .f32 0x00800000#32))) = (r : EReal) := by
  obtain ⟨m, hm, e⟩ := unit_word w
  rw [e, one_f32, tiny_f32]
  have hm' : (m : ℝ) ≤ 2 ^ 23 - 1 := by
    have : m + 1 ≤ 2 ^ 23 := hm
    have : ((m + 1 : ℕ) : ℝ) ≤ ((2 ^ 23 : ℕ) : ℝ) := Nat.cast_le.mpr this
    push_cast at this
    linarith
  have hm0 : (0 : ℝ) ≤ m := Nat.cast_nonneg m
  obtain ⟨t, ht⟩ : ∃ t : ℝ, t = (2 : ℝ) ^ (-126 : ℤ) := ⟨_, rfl⟩
  have ht0 : 0 < t := by rw [ht]; positivity
  have ht1 : t ≤ 1 / 2 := by rw [ht]; norm_num
  rw [← ht]
  have hu : max (t : EReal) ((((1 + (m : ℝ) / 2 ^ 23 : ℝ) : EReal) - ((1 : ℝ) : EReal)) * (((1 : ℝ) : EReal) - (t : EReal)) + (t : EReal)) =
      (((m : ℝ) / 2 ^ 23 * (1 - t) + t : ℝ) : EReal) := by
    rw [← EReal.coe_sub, ← EReal.coe_sub, ← EReal.coe_mul, ← EReal.coe_add, max_eq_right]
    · congr 3; ring
    · rw [EReal.coe_le_coe_iff]
      have : 0 ≤ (1 + (m : ℝ) / 2 ^ 23 - 1) * (1 - t) := mul_nonneg (by rw [add_sub_cancel_left]; positivity) (by linarith)
      linarith
  rw [hu]
  obtain ⟨u, hud⟩ : ∃ u : ℝ, u = (m : ℝ) / 2 ^ 23 * (1 - t) + t := ⟨_, rfl⟩
  rw [← hud]
  have hf0 : 0 ≤ (m : ℝ) / 2 ^ 23 := by positivity
  have hf1 : (m : ℝ) / 2 ^ 23 ≤ 1 - 1 / 2 ^ 23 := by
    rw [div_le_iff₀ (by positivity)]
    norm_num at hm' ⊢
    linarith
  have hu0 : t ≤ u := by
    have := mul_nonneg hf0 (by linarith : 0 ≤ 1 - t)
    linarith
  have hu1 : u ≤ 1 - 1 / 2 ^ 24 := by
    have := mul_le_mul_of_nonneg_right hf1 (by linarith : 0 ≤ 1 - t)
    norm_num at this ⊢
    nlinarith
  have hl0 : -(126 * Real.log 2) ≤ Real.log u := by
    have := Real.log_le_log ht0 hu0
    rw [ht, Real.log_zpow] at this
    push_cast at this
    linarith
  have hl1 : Real.log u ≤ -(1 / 2 ^ 24) := by
    have := Real.log_le_sub_one_of_pos (lt_of_lt_of_le ht0 hu0)
    linarith
  have h2 : Real.log 2 ≤ 1 := by
    have := Real.log_le_sub_one_of_pos (by norm_num : (0 : ℝ) < 2)
    linarith
  rw [log_coe (lt_of_lt_of_le ht0 hu0), ← EReal.coe_neg, log_coe (by norm_num at hl1; linarith), ← EReal.coe_neg]
  refine ⟨_, ?_, ?_, rfl⟩
  · have h3 : -Real.log u ≤ 2 ^ 7 := by norm_num; linarith
    have := Real.log_le_log (by norm_num at hl1; linarith) h3
    rw [Real.log_pow] at this
    push_cast at this
    linarith
  · have h3 : (2 : ℝ) ^ (-24 : ℤ) ≤ -Real.log u := by norm_num at hl1 ⊢; linarith
    have := Real.log_le_log (by positivity) h3
    rw [Real.log_zpow] at this
    push_cast at this
    linarith

/-- The guard added before the log. -/
theorem guard_f32 : ∃ ε : ℝ, 0 < ε ∧ ε ≤ 2 ^ (-99 : ℤ) ∧ Ideal.ofBits .f32 0x0DA24260#32 = (ε : EReal) := by
  refine ⟨_, ?_, ?_, by simp [Ideal.ofBits, Ideal.ieee]; rfl⟩
  · positivity
  · norm_num

/-- The log of one plus the guard, and of the guard alone. -/
theorem log_kept : ∃ a b : ℝ, 0 ≤ a ∧ b ≤ -(99 * Real.log 2) ∧ Ideal.log (((1 : ℝ) : EReal) + Ideal.ofBits .f32 0x0DA24260#32) = (a : EReal) ∧
    Ideal.log (((0 : ℝ) : EReal) + Ideal.ofBits .f32 0x0DA24260#32) = (b : EReal) := by
  obtain ⟨ε, h0, h1, e⟩ := guard_f32
  rw [e, ← EReal.coe_add, ← EReal.coe_add, zero_add, log_coe (by linarith), log_coe h0]
  refine ⟨_, _, Real.log_nonneg (by linarith), ?_, rfl, rfl⟩
  have := Real.log_le_log h0 h1
  rw [Real.log_zpow] at this
  push_cast at this
  linarith

end Cert.Noise

end
-- ==== Proof.ArgMax.lean ====
/-
  The fold of the greater-value-then-lesser-index step over (value, index) pairs, where one pair's value is strictly the
  greatest: the fold returns that pair.
-/
module

public import Idealize.ShloMosaic.PureOps.Ideal
public import Idealize.ShloMosaic.PureOps.Ideal.Laws
public import proofs.«01_k».proof.ReferenceIdeal

@[expose] public section

noncomputable section

namespace Cert.ArgMax

open Idealize.ShloMosaic Cert.ReferenceIdeal

theorem andi_zero (c : BitVec 1) : IntOp.andi (BitVec.ofBool false) c = BitVec.ofBool false := by
  revert c; decide

theorem step_gt {a b : EReal × BitVec 32} (h : b.1 < a.1) : reducer_argmax_f32_i32 (F := Ideal) a b = a := by
  have h2 : ¬ a.1 = b.1 := h.ne'
  simp only [reducer_argmax_f32_i32, Ideal.cmpf_def, Ideal.cmp, h, h2, ne_eq, not_true_eq_false, decide_true, decide_false]
  rw [andi_zero]
  rfl

theorem step_lt {a b : EReal × BitVec 32} (h : a.1 < b.1) : reducer_argmax_f32_i32 (F := Ideal) a b = b := by
  have h2 : ¬ a.1 = b.1 := h.ne
  have h3 : ¬ b.1 < a.1 := h.not_gt
  simp only [reducer_argmax_f32_i32, Ideal.cmpf_def, Ideal.cmp, h2, h3, ne_eq, not_true_eq_false, decide_false]
  rw [andi_zero]
  rfl

theorem step_fst (a b : EReal × BitVec 32) : (reducer_argmax_f32_i32 (F := Ideal) a b).1 = max a.1 b.1 := by
  rcases lt_trichotomy a.1 b.1 with h | h | h
  · rw [step_lt h, max_eq_right h.le]
  · have h3 : ¬ b.1 < a.1 := by rw [h]; exact lt_irrefl _
    simp only [reducer_argmax_f32_i32, Ideal.cmpf_def, Ideal.cmp, h3, ne_eq, not_true_eq_false, decide_false]
    rw [h, max_self]
    rfl
  · rw [step_gt h, max_eq_left h.le]

theorem step_self (a : EReal × BitVec 32) : reducer_argmax_f32_i32 (F := Ideal) a a = a := by
  refine Prod.ext ((step_fst a a).trans (max_self _)) ?_
  show Scalar.select _ a.2 a.2 = a.2
  exact ite_self _

theorem fold_best (best : EReal × BitVec 32) : ∀ (l : List (EReal × BitVec 32)) (acc : EReal × BitVec 32),
    (∀ p ∈ l, p = best ∨ p.1 < best.1) → (acc = best ∨ (acc.1 < best.1 ∧ best ∈ l)) →
    l.foldl (reducer_argmax_f32_i32 (F := Ideal)) acc = best
  | [], acc, _, h => h.elim id fun h => absurd h.2 List.not_mem_nil
  | p :: l, acc, hl, h => by
    rw [List.foldl_cons]
    refine fold_best best l _ (fun q hq => hl q (List.mem_cons_of_mem _ hq)) ?_
    rcases h with rfl | ⟨h, hm⟩
    · rcases hl p List.mem_cons_self with rfl | hp
      · exact Or.inl (step_self _)
      · exact Or.inl (step_gt hp)
    · by_cases hpb : p = best
      · subst hpb; exact Or.inl (step_lt h)
      · have hp := (hl p List.mem_cons_self).resolve_left hpb
        refine Or.inr ⟨?_, (List.mem_cons.mp hm).resolve_left fun e => hpb e.symm⟩
        rw [step_fst]
        exact max_lt h hp

end Cert.ArgMax

end
-- ==== Proof.Ref.Pick.lean ====
/-
  The reference's draw: the noisy logs' first largest, where one column's log exceeds every other's by more than the
  noise's whole range.
-/
module

public import proofs.«01_k».proof.Proof.Ref.Ranks
public import proofs.«01_k».proof.Proof.Noise
public import proofs.«01_k».proof.Proof.ArgMax

@[expose] public section

noncomputable section

namespace Cert.ReferenceIdeal.Hand

open Idealize.ShloMosaic Idealize.ShloMosaic.TcCoe Cert.ReferenceIdeal Cert.FirstMax
open Facts₀ Facts

/-- One value, with two axes of extent one. -/
abbrev OneT := FVec Ideal S1x1 .f32

/-- One value spread over the rows and columns. -/
def spread1F (x : OneT) : MatT := broadcastInDim S128x100000 ![0, 1] bcast_S1x1_S128x100000_0_1 x

/-- A constant at every row and column. -/
def constF (b : BitVec 32) : MatT := broadcastInDim S128x100000 ![] bcast_S_S128x100000 ((constant S_ .f32 b) : FVec Ideal S_ .f32)

/-- The uniform draws in [1, 2), from the random words. -/
def unitF (w w' : IVec S128x100000 32) : MatT :=
  bitcastToFloat (F := Ideal) .f32 (ori (Host.shrui (xori w w') (broadcastInDim S128x100000 ![] bcast_S_S128x100000 (constantI S_ 32 9#32)))
    (broadcastInDim S128x100000 ![] bcast_S_S128x100000 (constantI S_ 32 1065353216#32)))

/-- The uniform draws between the low and high ends. -/
def drawF (w w' : IVec S128x100000 32) : MatT :=
  maximumf (spread1F (lowF (F := Ideal))) (addf (mulf (subf (unitF w w') (constF 0x3F800000#32)) (spread1F (subf (highF (F := Ideal)) (lowF (F := Ideal)) : OneT))) (spread1F (lowF (F := Ideal))))

/-- The noise. -/
def noiseF (w w' : IVec S128x100000 32) : MatT :=
  Host.negf (Host.log (Host.negf (Host.log (drawF w w') : MatT) : MatT) : MatT)

/-- The index of a row's largest value. -/
def argF (x : MatT) : IVec S128 32 := fun j =>
  (Host.argReduce (reducer_argmax_f32_i32 (F := Ideal)) x (iotaInDim S128x100000 32 1) ((constant S_ .f32 0xFF800000#32) : FVec Ideal S_ .f32)
    (constantI S_ 32 0#32) reducesTo_S128x100000_S128_d1 h_S_ j).2

theorem pickF_eq' (w w' : IVec S128x100000 32) (v : MatT) :
    (pickF (F := Ideal) w w' highF lowF v : IVec S128 32) = argF (addf (noiseF w w') v) := rfl

theorem spread1F_apply (x : OneT) (s : Fin 128) (j : Fin 100000) : spread1F x (ix2 s j) = x (ix2 0 0) := by
  pointwise [spread1F]

theorem constF_apply (b : BitVec 32) (s : Fin 128) (j : Fin 100000) : constF b (ix2 s j) = Ideal.ofBits .f32 b := by
  pointwise [constF]

theorem unitF_apply (w w' : IVec S128x100000 32) (s : Fin 128) (j : Fin 100000) :
    unitF w w' (ix2 s j) = Ideal.ofBits .f32 (IntOp.ori (IntOp.shrui .host (IntOp.xori (w (ix2 s j)) (w' (ix2 s j))) 9#32) 1065353216#32) := by
  pointwise [unitF]

theorem draw_at (a x c d e : MatT) (i : S128x100000.Idx) : maximumf a (addf (mulf (subf x c) d) e) i = max (a i) ((x i - c i) * d i + e i) := rfl

theorem noise_at (x : MatT) (i : S128x100000.Idx) : Host.negf (Host.log (Host.negf (Host.log x : MatT) : MatT) : MatT) i = -Ideal.log (-Ideal.log (x i)) := rfl

theorem lowF_apply : (lowF (F := Ideal) : OneT) (ix2 0 0) = Ideal.ofBits .f32 0x00800000#32 := by
  pointwise [lowF]

theorem spanF_apply : (subf (highF (F := Ideal)) (lowF (F := Ideal)) : OneT) (ix2 0 0) = Ideal.ofBits .f32 0x3F800000#32 - Ideal.ofBits .f32 0x00800000#32 := by
  pointwise [lowF, highF]
  exact congrArg (· - Ideal.ofBits FTy.f32 0x00800000#32) (show Ideal.ofBits FTy.f32 0x3F800000#32 = 1 by simp)

/-- The noise is a real between the two bounds. -/
theorem noiseF_apply (w w' : IVec S128x100000 32) (s : Fin 128) (j : Fin 100000) :
    ∃ r : ℝ, -(7 * Real.log 2) ≤ r ∧ r ≤ 24 * Real.log 2 ∧ noiseF w w' (ix2 s j) = (r : EReal) := by
  obtain ⟨r, h1, h2, h⟩ := Noise.noise_bounds (IntOp.xori (w (ix2 s j)) (w' (ix2 s j)))
  refine ⟨r, h1, h2, ?_⟩
  unfold noiseF drawF
  rw [noise_at, draw_at, spread1F_apply, spread1F_apply, lowF_apply, spanF_apply, constF_apply, unitF_apply]
  exact h

/-- The index of a row's strictly largest value, at any extents. -/
theorem arg_row {a b : Nat} {u : Shape} (x : FVec Ideal ⟨2, ![a, b]⟩ .f32) (y : IVec ⟨2, ![a, b]⟩ 32) (vx : FVec Ideal u .f32) (vy : IVec u 32)
    (h : (⟨2, ![a, b]⟩ : Shape).ReducesTo [1] ⟨1, ![a]⟩) (hu : 0 < u.numel) (s : Fin a) (k : Fin b)
    (hv : vx (Shape.Idx.first hu) < x (ix2 s k)) (hk : ∀ j, j ≠ k → x (ix2 s j) < x (ix2 s k)) :
    (Host.argReduce (reducer_argmax_f32_i32 (F := Ideal)) x y vx vy h hu (ix1 s)).2 = y (ix2 s k) := by
  rw [Ideal.argReduce_eq_reduce2, Host.reduce2_eq_foldl_fiber, ArgMax.fold_best (x (ix2 s k), y (ix2 s k))]
  · intro p hp
    obtain ⟨j, rfl⟩ := (Rows.mem_fiber2 x y h s p).mp hp
    by_cases e : j = k
    · exact Or.inl (by rw [e])
    · exact Or.inr (hk j e)
  · exact Or.inr ⟨hv, (Rows.mem_fiber2 x y h s _).mpr ⟨k, rfl⟩⟩

theorem argF_eq (x : MatT) :
    argF x = fun i => (Host.argReduce (reducer_argmax_f32_i32 (F := Ideal)) x (iotaInDim S128x100000 32 1) ((constant S_ .f32 0xFF800000#32) : FVec Ideal S_ .f32)
      (constantI S_ 32 0#32) reducesTo_S128x100000_S128_d1 h_S_ i).2 := rfl

/-- The index of a row's strictly largest value. -/
theorem argF_apply (x : MatT) (s : Fin 128) (k : Fin 100000) (hb : ⊥ < x (ix2 s k)) (hk : ∀ j, j ≠ k → x (ix2 s j) < x (ix2 s k)) :
    argF x (ix1 s) = BitVec.ofNat 32 k.val := by
  have hv : ((constant S_ .f32 0xFF800000#32) : FVec Ideal S_ .f32) (Shape.Idx.first h_S_) = ⊥ := negInf
  have h := arg_row (a := 128) (b := 100000) x (iotaInDim S128x100000 32 1) ((constant S_ .f32 0xFF800000#32) : FVec Ideal S_ .f32)
    (constantI S_ 32 0#32) reducesTo_S128x100000_S128_d1 h_S_ s k (by rw [hv]; exact hb) hk
  rw [columns_apply] at h
  exact (congrFun (argF_eq x) (ix1 s)).trans h

/-- The draw, where column `k` is kept whole and the others are not kept. -/
theorem pickF_apply (w w' : IVec S128x100000 32) (v : MatT) (s : Fin 128) (k : Fin 100000)
    (hv : ∀ j : Fin 100000, v (ix2 s j) = ((if j = k then (1 : ℝ) else 0 : ℝ) : EReal)) :
    (pickF (F := Ideal) w w' highF lowF (logF v) : IVec S128 32) (ix1 s) = BitVec.ofNat 32 k.val := by
  obtain ⟨a, b, ha, hb, h1, h0⟩ := Noise.log_kept
  have hl : ∀ j : Fin 100000, (logF (F := Ideal) v : MatT) (ix2 s j) = ((if j = k then a else b : ℝ) : EReal) := fun j => by
    have e : (logF (F := Ideal) v : MatT) (ix2 s j) = Ideal.log (v (ix2 s j) + Ideal.ofBits .f32 0x0DA24260#32) := by
      pointwise [logF]
    rw [e, hv]
    by_cases hj : j = k
    · rw [if_pos hj, if_pos hj, h1]
    · rw [if_neg hj, if_neg hj, h0]
  have hlog2 : 0 < Real.log 2 := Real.log_pos (by norm_num)
  have hadd : ∀ j : Fin 100000, ∃ r : ℝ, -(7 * Real.log 2) ≤ r ∧ r ≤ 24 * Real.log 2 ∧
      (addf (noiseF w w') (logF (F := Ideal) v : MatT) : MatT) (ix2 s j) = ((r + (if j = k then a else b) : ℝ) : EReal) := fun j => by
    obtain ⟨r, r1, r2, r3⟩ := noiseF_apply w w' s j
    refine ⟨r, r1, r2, ?_⟩
    have e : (addf (noiseF w w') (logF (F := Ideal) v : MatT) : MatT) (ix2 s j) = noiseF w w' (ix2 s j) + (logF (F := Ideal) v : MatT) (ix2 s j) := rfl
    rw [e, r3, hl, ← EReal.coe_add]
  rw [pickF_eq']
  obtain ⟨r, r1, _, r3⟩ := hadd k
  rw [if_pos rfl] at r3
  refine argF_apply _ s k ?_ fun j hj => ?_
  · rw [r3]; exact EReal.bot_lt_coe _
  · obtain ⟨q, _, q2, q3⟩ := hadd j
    rw [if_neg hj] at q3
    rw [r3, q3, EReal.coe_lt_coe_iff]
    linarith

end Cert.ReferenceIdeal.Hand

end
-- ==== Proof.Ref.Run.lean ====
/-
  The reference's run: its result as the composition of the stretches' functions, with its arguments and its counters
  unchanged.
-/
module

public import proofs.«01_k».proof.Proof.Ref.Vals
public import Idealize.ShloMosaic.Lib.Pipeline.Frame
public import Idealize.ShloMosaic.Lib.Claim
public import Idealize.ShloMosaic.Lib.Quiescent

@[expose] public section

noncomputable section

namespace Cert.ReferenceIdeal.Hand

open Idealize.ShloMosaic Idealize.ShloMosaic.TcCoe Idealize.SL.Sem Cert.ReferenceIdeal
open Idealize.ShloMosaic.StableHlo (seq after after_append after_unwritten tcRefs run_seq launchContents launchContents_devRef)

variable {F : FTy → Type} [FloatOps F]

theorem logits_keep (V : Valuation τ sig (Elt F)) (r : Ref sig .tc) (h : r ∉ logitsRefs) :
    after logitsOps V (no_index (Proc.devRef .tc r)) = V (Proc.devRef .tc r) := after_unwritten logitsRefs logits_writes h V

theorem softmax_keep (V : Valuation τ sig (Elt F)) (r : Ref sig .tc) (h : r ∉ softmaxRefs) :
    after softmaxOps V (no_index (Proc.devRef .tc r)) = V (Proc.devRef .tc r) := after_unwritten softmaxRefs softmax_writes h V

theorem order_keep (V : Valuation τ sig (Elt F)) (r : Ref sig .tc) (h : r ∉ orderRefs) :
    after orderOps V (no_index (Proc.devRef .tc r)) = V (Proc.devRef .tc r) := after_unwritten orderRefs order_writes h V

theorem ranked_keep (V : Valuation τ sig (Elt F)) (r : Ref sig .tc) (h : r ∉ rankedRefs) :
    after rankedOps V (no_index (Proc.devRef .tc r)) = V (Proc.devRef .tc r) := after_unwritten rankedRefs ranked_writes h V

theorem kept_keep (V : Valuation τ sig (Elt F)) (r : Ref sig .tc) (h : r ∉ keptRefs) :
    after keptOps V (no_index (Proc.devRef .tc r)) = V (Proc.devRef .tc r) := after_unwritten keptRefs kept_writes h V

theorem unorder_keep (V : Valuation τ sig (Elt F)) (r : Ref sig .tc) (h : r ∉ unorderRefs) :
    after unorderOps V (no_index (Proc.devRef .tc r)) = V (Proc.devRef .tc r) := after_unwritten unorderRefs unorder_writes h V

theorem unranked_keep (V : Valuation τ sig (Elt F)) (r : Ref sig .tc) (h : r ∉ unrankedRefs) :
    after unrankedOps V (no_index (Proc.devRef .tc r)) = V (Proc.devRef .tc r) := after_unwritten unrankedRefs unranked_writes h V

theorem seedsA_keep (V : Valuation τ sig (Elt F)) (r : Ref sig .tc) (h : r ∉ seedsARefs) :
    after seedsAOps V (no_index (Proc.devRef .tc r)) = V (Proc.devRef .tc r) := after_unwritten seedsARefs seedsA_writes h V

theorem seedsB_keep (V : Valuation τ sig (Elt F)) (r : Ref sig .tc) (h : r ∉ seedsBRefs) :
    after seedsBOps V (no_index (Proc.devRef .tc r)) = V (Proc.devRef .tc r) := after_unwritten seedsBRefs seedsB_writes h V

theorem words0_keep (V : Valuation τ sig (Elt F)) (r : Ref sig .tc) (h : r ∉ words0Refs) :
    after words0Ops V (no_index (Proc.devRef .tc r)) = V (Proc.devRef .tc r) := after_unwritten words0Refs words0_writes h V

theorem words1_keep (V : Valuation τ sig (Elt F)) (r : Ref sig .tc) (h : r ∉ words1Refs) :
    after words1Ops V (no_index (Proc.devRef .tc r)) = V (Proc.devRef .tc r) := after_unwritten words1Refs words1_writes h V

theorem words2_keep (V : Valuation τ sig (Elt F)) (r : Ref sig .tc) (h : r ∉ words2Refs) :
    after words2Ops V (no_index (Proc.devRef .tc r)) = V (Proc.devRef .tc r) := after_unwritten words2Refs words2_writes h V

theorem words3_keep (V : Valuation τ sig (Elt F)) (r : Ref sig .tc) (h : r ∉ words3Refs) :
    after words3Ops V (no_index (Proc.devRef .tc r)) = V (Proc.devRef .tc r) := after_unwritten words3Refs words3_writes h V

theorem pick_keep (V : Valuation τ sig (Elt F)) (r : Ref sig .tc) (h : r ∉ pickRefs) :
    after pickOps V (no_index (Proc.devRef .tc r)) = V (Proc.devRef .tc r) := after_unwritten pickRefs pick_writes h V

/-- Every operation of @main, in order. -/
def allOps : List (HloOp τ sig (Elt F)) :=
  (logitsOps ++ (softmaxOps ++ (orderOps ++ (rankedOps ++ (keptOps ++ (unorderOps ++ (unrankedOps ++ seedsAOps))))))) ++ (seedsBOps ++ (words0Ops ++ (words1Ops ++ (words2Ops ++ (words3Ops ++ pickOps)))))

theorem all_sub : (allOps (F := F)).Forall fun op => op.bufs ⊆ tcRefs τ sig := by
  simp only [allOps, List.forall_append]
  exact ⟨⟨logits_sub, softmax_sub, order_sub, ranked_sub, kept_sub, unorder_sub, unranked_sub, seedsA_sub⟩,
    seedsB_sub, words0_sub, words1_sub, words2_sub, words3_sub, pick_sub⟩

theorem all_fresh : (allOps (F := F)).Forall fun op => op.fresh = ∅ := by
  simp only [allOps, List.forall_append]
  exact ⟨⟨logits_fresh, softmax_fresh, order_fresh, ranked_fresh, kept_fresh, unorder_fresh, unranked_fresh, seedsA_fresh⟩,
    seedsB_fresh, words0_fresh, words1_fresh, words2_fresh, words3_fresh, pick_fresh⟩

/-- A buffer no operation of @main writes keeps its contents. -/
theorem all_keep (V : Valuation τ sig (Elt F)) (r : Ref sig .tc)

    (h_logits : r ∉ logitsRefs)
    (h_softmax : r ∉ softmaxRefs)
    (h_order : r ∉ orderRefs)
    (h_ranked : r ∉ rankedRefs)
    (h_kept : r ∉ keptRefs)
    (h_unorder : r ∉ unorderRefs)
    (h_unranked : r ∉ unrankedRefs)
    (h_seedsA : r ∉ seedsARefs)
    (h_seedsB : r ∉ seedsBRefs)
    (h_words0 : r ∉ words0Refs)
    (h_words1 : r ∉ words1Refs)
    (h_words2 : r ∉ words2Refs)
    (h_words3 : r ∉ words3Refs)
    (h_pick : r ∉ pickRefs)
    : after allOps V (Proc.devRef .tc r) = V (Proc.devRef .tc r) := by
  simp only [allOps, after_append]
  rw [pick_keep _ _ h_pick, words3_keep _ _ h_words3, words2_keep _ _ h_words2, words1_keep _ _ h_words1, words0_keep _ _ h_words0, seedsB_keep _ _ h_seedsB, seedsA_keep _ _ h_seedsA, unranked_keep _ _ h_unranked, unorder_keep _ _ h_unorder, kept_keep _ _ h_kept, ranked_keep _ _ h_ranked, order_keep _ _ h_order, softmax_keep _ _ h_softmax, logits_keep _ _ h_logits]

/-- The reference's result from its arguments and the two arrays of random words. -/
def resultF (a0 : (⟨S100000x2048, .f32⟩ : BufTy).Contents (Elt F)) (a1 : (⟨S128x16x2048, .f32⟩ : BufTy).Contents (Elt F))
    (a2 : (⟨S1, .i32⟩ : BufTy).Contents (Elt F)) (a3 a4 : (⟨S128, .f32⟩ : BufTy).Contents (Elt F))
    (a6 : (⟨S100000, .f32⟩ : BufTy).Contents (Elt F)) (w w' : (⟨S128x100000, .i32⟩ : BufTy).Contents (Elt F)) :
    (⟨S128, .i32⟩ : BufTy).Contents (Elt F) :=
  pickF w w' highF lowF (logF (unrankedF (unorderF (orderF (negF a3 (logitsF a2 a1 a0 a6))))
    (keptF (rankedF (orderF (negF a3 (logitsF a2 a1 a0 a6))) (probsF a3 (logitsF a2 a1 a0 a6))) a4)))

theorem all_result (V : Valuation τ sig (Elt F)) :
    ∃ w w', after allOps V (Proc.devRef .tc main_v57) = resultF (V (Proc.devRef .tc main_arg0)) (V (Proc.devRef .tc main_arg1))
      (V (Proc.devRef .tc main_arg2)) (V (Proc.devRef .tc main_arg3)) (V (Proc.devRef .tc main_arg4))
      (V (Proc.devRef .tc main_arg6)) w w' := by
  unfold allOps resultF
  rw [after_append, after_append, after_append, after_append, after_append, after_append]
  rw [pickF_eq]
  refine ⟨_, _, congr (congr (congrArg (pickF _ _) ?_) ?_) ?_⟩
  · rw [words3_keep _ _ (by decide), words2_keep _ _ (by decide), words1_keep _ _ (by decide), words0_keep _ _ (by decide), highF_eq]
  · rw [words3_keep _ _ (by decide), words2_keep _ _ (by decide), words1_keep _ _ (by decide), words0_keep _ _ (by decide), lowF_eq]
  · rw [words3_keep _ _ (by decide), words2_keep _ _ (by decide), words1_keep _ _ (by decide), words0_keep _ _ (by decide), logF_eq]
    rw [after_append, after_append, after_append, after_append, after_append, after_append, after_append]
    rw [seedsA_keep _ _ (by decide), unrankedF_eq, unorderF_eq, unorder_keep _ _ (by decide), keptF_eq, kept_keep _ _ (by decide),
      rankedF_eq, ranked_keep _ _ (by decide), ranked_keep _ _ (by decide), orderF_eq, order_keep _ _ (by decide),
      order_keep _ _ (by decide), negF_eq, probsF_eq, softmax_keep _ _ (by decide), logitsF_eq, logits_keep _ _ (by decide),
      logits_keep _ _ (by decide)]

theorem scopedRefs_eq : (Finset.univ.filter fun b : Ref sig .tc => b.isScoped) = ∅ := by decide
theorem scopedSems_eq : (Finset.univ.filter fun sm : SemLoc sig => sm.isScoped .tc) = ∅ := by decide

/-- The run: the result is `resultF` of the arguments and some random words, the arguments and the counters are kept. -/
theorem run (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      (∃ w w', r.2.mem ((c.tc : Thread nD τ).loc main_v57) = resultF (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg6)) w w')

      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 := by
  refine (θ_run defs _ _).mono ?_ (run_seq scopedRefs_eq scopedSems_eq defs main (fun _ => allOps) main_eq (fun _ => all_sub) m ρ
    (fun _ => List.forall_iff_forall_mem.mp all_fresh))
  refine fun r h => ⟨fun c => ⟨?_, ?_⟩, sem_eq_zero_of_no_sems rfl _⟩
  · rw [h c main_v57]
    exact all_result _
  · refine ⟨?_, ?_, ?_, ?_, ?_, ?_, ?_⟩ <;>
      (rw [h c]; exact all_keep _ _ (by decide) (by decide) (by decide) (by decide) (by decide) (by decide) (by decide) (by decide)
        (by decide) (by decide) (by decide) (by decide) (by decide) (by decide))

end Cert.ReferenceIdeal.Hand

end
-- ==== Proof.Ref.Result.lean ====
/-
  The reference's result: for each row the first word with the largest score, whatever the random words are.
-/
module

public import proofs.«01_k».proof.Proof.Ref.Logits
public import proofs.«01_k».proof.Proof.Ref.Kept
public import proofs.«01_k».proof.Proof.Ref.Pick
public import proofs.«01_k».proof.Proof.Ref.Run
public import proofs.«01_k».proof.Proof.Order

@[expose] public section

noncomputable section

namespace Cert.ReferenceIdeal.Hand

open Idealize.ShloMosaic Idealize.ShloMosaic.TcCoe Cert.ReferenceIdeal Cert.FirstMax Cert.Spec Cert.Order
open Facts₀ Facts

theorem negF_apply (T : RowT) (L : MatT) (i : S128x100000.Idx) :
    (negF (F := Ideal) T L : MatT) i = -((probsF (F := Ideal) T L : MatT) i) := by
  have h := congrFun (negF_eq' T L) i
  exact h

/-- The draw from a row's logits: the first column of the largest logit. -/
theorem draw_first (T : RowT) (L : MatT) (q : RowT) (w w' : IVec S128x100000 32) (s : Fin 128) (t : ℝ) (ht : 0 < t)
    (hT : T (ix1 s) = (t : EReal)) (hq : 0 ≤ q (ix1 s)) (x : Fin 100000 → ℝ) (hL : ∀ k, L (ix2 s k) = (x k : EReal)) :
    ∃ k : Fin 100000, (∀ j, x j ≤ x k ∧ (j < k → x j < x k)) ∧
      (pickF (F := Ideal) w w' highF lowF (logF (unrankedF (unorderF (orderF (negF T L)))
        (keptF (rankedF (orderF (negF T L)) (probsF T L)) q))) : IVec S128 32) (ix1 s) = BitVec.ofNat 32 k.val := by
  obtain ⟨p, hp, hp0, hpx⟩ := probs_real T L s t ht hT x hL
  have hK : ∀ k, (negF (F := Ideal) T L : MatT) (ix2 s k) = ((-p k : ℝ) : EReal) := fun k => by
    rw [negF_apply, hp, EReal.coe_neg]
  generalize (negF (F := Ideal) T L : MatT) = K at hK ⊢
  generalize (probsF (F := Ideal) T L : MatT) = P at hp ⊢
  have hO := orderF_apply K s
  have hσ := sortedFrom_injective (fun a b => decide (K (ix2 s a) < K (ix2 s b)))
  have hhead := sortedFrom_head (fun a => K (ix2 s a))
  generalize sortedFrom (fun a b => decide (K (ix2 s a) < K (ix2 s b))) = σ at hO hσ hhead
  generalize (orderF (F := Ideal) K : WordT) = O at hO ⊢
  have hU := unorderF_apply O s σ hO
  have hinv := sortedFrom_inverse σ hσ
  generalize sortedFrom (fun a b => decide (σ a < σ b)) = τ at hU hinv
  generalize (unorderF O : WordT) = U at hU ⊢
  obtain ⟨z, hz⟩ : ∃ z : Fin 100000, z.val = 0 := ⟨⟨0, by omega⟩, rfl⟩
  refine ⟨σ z, fun j => ?_, ?_⟩
  · obtain ⟨hle, hlt⟩ := hhead z hz j
    simp only [hK, EReal.coe_le_coe_iff, EReal.coe_lt_coe_iff] at hle hlt
    refine ⟨?_, fun hj => (hpx _ _).mp (by linarith [hlt hj])⟩
    by_contra hn
    have := (hpx _ _).mpr (not_le.mp hn)
    linarith
  · refine pickF_apply w w' _ s (σ z) fun j => ?_
    have hR : ∀ y : Fin 100000, y.val = 0 → (rankedF (F := Ideal) O P : MatT) (ix2 s y) = (p (σ z) : EReal) := fun y hy => by
      rw [rankedF_take, takeF_apply O P s y (σ y) (hO y), hp, Fin.ext (hy.trans hz.symm)]
    have hk := keptF_apply (rankedF (F := Ideal) O P) q s hq (p (σ z)) (hp0 _) hR
    generalize (keptF (F := Ideal) (rankedF (F := Ideal) O P) q : MatT) = Q at hk ⊢
    rw [unrankedF_take, takeF_apply U Q s j (τ j) (hU j), hk]
    have e : ((τ j).val = 0) = (j = σ z) := propext ⟨fun h => by
      rw [← hinv j]; exact congrArg σ (Fin.ext (h.trans hz.symm)), fun h => by
      have : τ j = z := hσ ((hinv j).trans h)
      rw [this, hz]⟩
    simp only [e]

/-- The reference's result: the first word with the largest score. -/
theorem resultF_first (a0 : FVec Ideal S100000x2048 .f32) (a1 : FVec Ideal S128x16x2048 .f32) (a2 : IVec S1 32) (a3 a4 : FVec Ideal S128 .f32)
    (a6 : FVec Ideal S100000 .f32) (w w' : IVec S128x100000 32)
    (h0 : ∀ i, ∃ r : ℝ, a0 i = (r : EReal)) (h1 : ∀ i, ∃ r : ℝ, a1 i = (r : EReal)) (h6 : ∀ i, ∃ r : ℝ, a6 i = (r : EReal))
    (hlo : -16 ≤ (a2 (ix1 0)).toInt) (hhi : (a2 (ix1 0)).toInt < 16) (h3 : ∀ i, ∃ r : ℝ, 0 < r ∧ a3 i = (r : EReal)) (h4 : ∀ i, 0 ≤ a4 i) (s : Fin 128) :
    ∃ k v, FirstOn (score (fun k => a1 (ix3 s (posIx (a2 (ix1 0))) k)) (fun v k => a0 (ix2 v k)) (fun v => a6 (ix1 v))) 0 100000 k v ∧
      (resultF (F := Ideal) a0 a1 a2 a3 a4 a6 w w' : IVec S128 32) (ix1 s) = BitVec.ofNat 32 k := by
  have hr := score_real (fun k => a1 (ix3 s (posIx (a2 (ix1 0))) k)) (fun v k => a0 (ix2 v k)) (fun v => a6 (ix1 v))
    (fun _ => h1 _) (fun _ _ => h0 _) (fun _ => h6 _)
  have hl := logitsF_apply a2 a1 a0 a6 hlo hhi s
  generalize score (fun k => a1 (ix3 s (posIx (a2 (ix1 0))) k)) (fun v k => a0 (ix2 v k)) (fun v => a6 (ix1 v)) = S at hr hl ⊢
  choose x hx using hr
  obtain ⟨t, ht, hT⟩ := h3 (ix1 s)
  unfold resultF
  generalize (logitsF (F := Ideal) a2 a1 a0 a6 : MatT) = L at hl ⊢
  obtain ⟨k, hk, e⟩ := draw_first a3 L a4 w w' s t ht hT (h4 _) x (fun j => (hl j).trans (hx j))
  have hS : ∀ j (hj : j < 100000), S j = (x ⟨j, hj⟩ : EReal) := fun j hj => hx ⟨j, hj⟩
  have hlt := k.isLt
  refine ⟨k.val, (x k : EReal), ⟨Nat.zero_le _, hlt, hS _ hlt, fun j _ hj => ?_, fun j _ hj => ?_⟩, e⟩
  · rw [hS j hj]; exact EReal.coe_le_coe_iff.mpr (hk _).1
  · rw [hS j (hj.trans hlt)]; exact EReal.coe_lt_coe_iff.mpr ((hk _).2 hj)

end Cert.ReferenceIdeal.Hand

end
-- ==== Proof.Legal.lean ====
/-
  The precondition, said of the arguments' elements: the embeddings, hidden states and biases are reals, the position
  lies in `[-16, 16)`, the temperatures are positive reals and the kept masses are not negative.
-/
module

public import proofs.«01_k».proof.Pre_legal_inputs
public import Idealize.ShloMosaic.PureOps.Ideal
public import Idealize.ShloMosaic.PureOps.Ideal.Laws
public import Idealize.ShloMosaic.Lib.Pointwise
public import Idealize.ShloMosaic.Lib.Affine
public import Idealize.ShloMosaic.Lib.WordCmp

@[expose] public section

noncomputable section

namespace Cert.Legal

open Idealize.ShloMosaic Cert.Pre_legal_inputs

theorem inf_bits : Ideal.ofBits .f32 0x7F800000#32 = ⊤ := by
  simp [Ideal.ofBits, Ideal.ieee]

/-- Smaller in size than infinity: a real. -/
theorem real_of_abs {x : EReal} (h : Ideal.cmp .olt (max x (-x)) (Ideal.ofBits .f32 0x7F800000#32) = 1#1) : ∃ r : ℝ, x = (r : EReal) := by
  rw [inf_bits] at h
  have h' : max x (-x) < ⊤ := (Idealize.ShloMosaic.WordCmp.ofBool_decide_eq_one_iff _).mp h
  induction x with
  | bot => exact absurd h' (by simp)
  | coe r => exact ⟨r, rfl⟩
  | top => exact absurd h' (by simp)

/-- Between zero and infinity: a positive real. -/
theorem pos_real {x : EReal} (h : IntOp.andi (Ideal.cmp .ogt x (Ideal.ofBits .f32 0x00000000#32)) (Ideal.cmp .olt x (Ideal.ofBits .f32 0x7F800000#32)) = 1#1) :
    ∃ r : ℝ, 0 < r ∧ x = (r : EReal) := by
  rw [inf_bits, Ideal.ofBits_zero_f32] at h
  have h0 : 0 < x := (Idealize.ShloMosaic.WordCmp.ofBool_decide_eq_one_iff _).mp (IntOp.andi_eq_one.mp h).1
  have h1 : x < ⊤ := (Idealize.ShloMosaic.WordCmp.ofBool_decide_eq_one_iff _).mp (IntOp.andi_eq_one.mp h).2
  induction x with
  | bot => exact absurd h0 (by simp)
  | coe r => exact ⟨r, by exact_mod_cast h0, rfl⟩
  | top => exact absurd h1 (by simp)

theorem nonneg {x : EReal} (h : Ideal.cmp .oge x (Ideal.ofBits .f32 0x00000000#32) = 1#1) : 0 ≤ x := by
  rw [Ideal.ofBits_zero_f32] at h
  exact (Idealize.ShloMosaic.WordCmp.ofBool_decide_eq_one_iff _).mp h

theorem bounds {p : BitVec 32} (h : IntOp.andi (IntOp.cmpi .sge p 4294967280#32) (IntOp.cmpi .slt p 16#32) = 1#1) : -16 ≤ p.toInt ∧ p.toInt < 16 := by
  obtain ⟨a, b⟩ := IntOp.andi_eq_one.mp h
  exact ⟨le_of_eq_of_le (by decide) (IntOp.cmpi_sge.mp a), lt_of_lt_of_eq (IntOp.cmpi_slt.mp b) (by decide)⟩

variable [Facts] (a0 : FVec Ideal S100000x2048 .f32) (a1 : FVec Ideal S128x16x2048 .f32) (a2 : IVec S1 32) (a3 a4 : FVec Ideal S128 .f32)
  (a5 : IVec S128 32) (a6 : FVec Ideal S100000 .f32)

theorem fn_embedding (i : S100000x2048.Idx) : (fn (F := Ideal) a0 a1 a2 a3 a4 a5 a6).1 i
    = Ideal.cmp .olt (max (a0 i) (-(a0 i))) (Ideal.ofBits .f32 0x7F800000#32) := rfl

theorem fn_hidden (i : S128x16x2048.Idx) : (fn (F := Ideal) a0 a1 a2 a3 a4 a5 a6).2.1 i
    = Ideal.cmp .olt (max (a1 i) (-(a1 i))) (Ideal.ofBits .f32 0x7F800000#32) := rfl

theorem fn_bias (i : S100000.Idx) : (fn (F := Ideal) a0 a1 a2 a3 a4 a5 a6).2.2.1 i
    = Ideal.cmp .olt (max (a6 i) (-(a6 i))) (Ideal.ofBits .f32 0x7F800000#32) := rfl

theorem fn_position (i : S1.Idx) : (fn (F := Ideal) a0 a1 a2 a3 a4 a5 a6).2.2.2.1 i
    = IntOp.andi (IntOp.cmpi .sge (a2 i) 4294967280#32) (IntOp.cmpi .slt (a2 i) 16#32) := rfl

theorem fn_temperature (i : S128.Idx) : (fn (F := Ideal) a0 a1 a2 a3 a4 a5 a6).2.2.2.2.1 i
    = IntOp.andi (Ideal.cmp .ogt (a3 i) (Ideal.ofBits .f32 0x00000000#32)) (Ideal.cmp .olt (a3 i) (Ideal.ofBits .f32 0x7F800000#32)) := rfl

theorem fn_mass (i : S128.Idx) : (fn (F := Ideal) a0 a1 a2 a3 a4 a5 a6).2.2.2.2.2 i
    = Ideal.cmp .oge (a4 i) (Ideal.ofBits .f32 0x00000000#32) := rfl

end Cert.Legal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_legal_inputs
public import proofs.«01_k».proof.Proof.Kernel.Value
public import proofs.«01_k».proof.Proof.Ref.Result
public import proofs.«01_k».proof.Proof.Legal
public import Idealize.ShloMosaic.Adequacy
public import Idealize.ShloMosaic.Init

@[expose] public section

noncomputable section

namespace Cert.Proof

open Idealize.ShloMosaic Idealize.SL.Sem Cert.Kernel

/-- The reference's frame: its run keeps the arguments and the counters. -/
theorem reference_frame : Cert.quiescent_ReferenceIdeal := fun m g _ =>
  (θ_run _ _ _).mono (fun _ h => ⟨fun c => (h.1 c).2, h.2⟩) (Cert.ReferenceIdeal.Hand.run m g)

/-- On legal inputs the reference's result is the kernel's: both are the first word with the largest score. -/
theorem result_eq (m : (ℓ : Loc Cert.KernelIdeal.nD Cert.KernelIdeal.τ Cert.KernelIdeal.sig) → Buf (Elt Ideal) ℓ)
    (hp : Cert.Pre_KernelIdeal_legal_inputs m) (c : Dev Cert.KernelIdeal.nD) (w w' : IVec Cert.ReferenceIdeal.S128x100000 32) :
    (Cert.ReferenceIdeal.Hand.resultF (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6)) w w'
        : IVec Cert.ReferenceIdeal.S128 32) = Cert.KernelIdeal.Value.G5 m c := by
  obtain ⟨p0, p1, p6, p2, p3, p4⟩ := hp c
  obtain ⟨hlo, hhi⟩ := Cert.Legal.bounds ((Cert.Legal.fn_position _ _ _ _ _ _ _ (ix1 0)).symm.trans (congrFun p2 (ix1 0)))
  funext i
  obtain ⟨s, rfl⟩ : ∃ s : Fin 128, i = ix1 s := ⟨i 0, funext fun a => by match a with | ⟨0, _⟩ => rfl⟩
  obtain ⟨k, v, hk, e⟩ := Cert.KernelIdeal.Hand.result_first m c hlo hhi s
  obtain ⟨k', v', hk', e'⟩ := Cert.ReferenceIdeal.Hand.resultF_first
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg6)) w w'
    (fun i => Cert.Legal.real_of_abs ((Cert.Legal.fn_embedding _ _ _ _ _ _ _ i).symm.trans (congrFun p0 i)))
    (fun i => Cert.Legal.real_of_abs ((Cert.Legal.fn_hidden _ _ _ _ _ _ _ i).symm.trans (congrFun p1 i)))
    (fun i => Cert.Legal.real_of_abs ((Cert.Legal.fn_bias _ _ _ _ _ _ _ i).symm.trans (congrFun p6 i)))
    hlo hhi
    (fun i => Cert.Legal.pos_real ((Cert.Legal.fn_temperature _ _ _ _ _ _ _ i).symm.trans (congrFun p3 i)))
    (fun i => Cert.Legal.nonneg ((Cert.Legal.fn_mass _ _ _ _ _ _ _ i).symm.trans (congrFun p4 i))) s
  rw [e, e', hk'.unique hk]

/-- The value claim. -/
theorem same_result : Cert.algebraic_KernelIdeal_ReferenceIdeal_pre_legal_inputs := fun m g m' g' hp hm => by
  refine ⟨fun c => Cert.KernelIdeal.Value.G5 m c, Cert.KernelIdeal.Value.run m g, ?_⟩
  refine (θ_run _ _ _).mono (fun r h c => ?_) (Cert.ReferenceIdeal.Hand.run m' g')
  obtain ⟨⟨w, w', hv⟩, hargs⟩ := h.1 c
  refine ⟨hv.trans ?_, hargs⟩
  obtain ⟨h0, h1, h2, h3, h4, _, h6⟩ := hm c
  rw [h0, h1, h2, h3, h4, h6]
  exact result_eq m hp c w w'

theorem claim : Cert.Claim := ⟨Cert.Kernel.Gen.facts, Cert.KernelIdeal.Gen.facts, Cert.ReferenceIdeal.Gen.facts, Cert.Pre_legal_inputs.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_result⟩

end Cert.Proof

end
